-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_differ [hPre_positions_differ : Cert.Pre_positions_differ.Facts] (m : (ℓ : Loc Cert.KernelIdeal.nD Cert.KernelIdeal.τ Cert.KernelIdeal.sig) → Buf (Elt Ideal) ℓ) : Prop :=
  ∀ c : Dev Cert.KernelIdeal.nD,
    (Cert.Pre_positions_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_differ [hPre_positions_differ : Cert.Pre_positions_differ.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_positions_differ [hKernelIdeal : Cert.KernelIdeal.Facts] [hPre_positions_differ : Cert.Pre_positions_differ.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_differ m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_positions_differ [hReferenceIdeal : Cert.ReferenceIdeal.Facts] [hPre_positions_differ : Cert.Pre_positions_differ.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_differ m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_positions_differ [hKernelIdeal : Cert.KernelIdeal.Facts] [hReferenceIdeal : Cert.ReferenceIdeal.Facts] [hPre_positions_differ : Cert.Pre_positions_differ.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_differ m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_positions_differ : Cert.Pre_positions_differ.Facts),
    quiescent_Kernel (hKernel := hKernel)
    ∧ quiescent_KernelIdeal (hKernelIdeal := hKernelIdeal)
    ∧ quiescent_KernelIdeal_pre_positions_differ (hKernelIdeal := hKernelIdeal) (hPre_positions_differ := hPre_positions_differ)
    ∧ quiescent_ReferenceIdeal (hReferenceIdeal := hReferenceIdeal)
    ∧ quiescent_ReferenceIdeal_pre_positions_differ (hReferenceIdeal := hReferenceIdeal) (hPre_positions_differ := hPre_positions_differ)
    ∧ preserves_Kernel_KernelIdeal
    ∧ algebraic_KernelIdeal_ReferenceIdeal_pre_positions_differ (hKernelIdeal := hKernelIdeal) (hReferenceIdeal := hReferenceIdeal) (hPre_positions_differ := hPre_positions_differ)
-- ==== Pre_positions_differ.lean ====
abbrev S2x768x16384 : Shape := ⟨3, ![2, 768, 16384]⟩
abbrev S2x768 : Shape := ⟨2, ![2, 768]⟩
abbrev S8192x2560 : Shape := ⟨2, ![8192, 2560]⟩
abbrev S512x2560 : Shape := ⟨2, ![512, 2560]⟩
abbrev S16384 : Shape := ⟨1, ![16384]⟩
abbrev S8 : Shape := ⟨1, ![8]⟩
abbrev S1x8x1 : Shape := ⟨3, ![1, 8, 1]⟩
abbrev S512x1x2560 : Shape := ⟨3, ![512, 1, 2560]⟩
abbrev S_ : Shape := ⟨0, ![]⟩
abbrev S512x8x2560 : Shape := ⟨3, ![512, 8, 2560]⟩

class Facts : Prop where
  bcast_S8_S1x8x1_1 : S8.BroadcastsInDim S1x8x1 (![1] : Fin 1 → Fin S1x8x1.rank)
  bcast_S512x2560_S512x1x2560_0_2 : S512x2560.BroadcastsInDim S512x1x2560 (![0, 2] : Fin 2 → Fin S512x1x2560.rank)
  bcast_S_S1x8x1 : S_.BroadcastsInDim S1x8x1 (![] : Fin 0 → Fin S1x8x1.rank)
  bcast_S512x1x2560_S512x8x2560_0_1_2 : S512x1x2560.BroadcastsInDim S512x8x2560 (![0, 1, 2] : Fin 3 → Fin S512x8x2560.rank)
  bcast_S1x8x1_S512x8x2560_0_1_2 : S1x8x1.BroadcastsInDim S512x8x2560 (![0, 1, 2] : Fin 3 → Fin S512x8x2560.rank)
  bcast_S_S512x8x2560 : S_.BroadcastsInDim S512x8x2560 (![] : Fin 0 → Fin S512x8x2560.rank)

variable [Facts]

def fn_part1 {F : FTy → Type} [FloatOps F] (main_v9 : IVec S512x8x2560 32) (main_v17 : IVec S512x8x2560 32) (main_v18 : IVec S512x8x2560 32) : IVec S512x8x2560 1 :=
  let main_v19 : IVec S512x8x2560 32 := andi main_v17 main_v18
  let main_v20 : IVec S512x8x2560 1 := cmpi .ne main_v9 main_v19
  main_v20

def fn {F : FTy → Type} [FloatOps F] (main_arg0 : FVec F S2x768x16384 .fp8e5m2) (main_arg1 : FVec F S2x768 .f32) (main_arg2 : IVec S8192x2560 8) (main_arg3 : IVec S512x2560 32) (main_arg4 : FVec F S16384 .f32) : IVec S512x8x2560 1 :=
  let main_v0 : IVec S8 32 := iotaInDim S8 32 0
  let main_v1 : IVec S1x8x1 32 := broadcastInDim S1x8x1 ![1] bcast_S8_S1x8x1_1 main_v0
  let main_v2 : IVec S512x1x2560 32 := broadcastInDim S512x1x2560 ![0, 2] bcast_S512x2560_S512x1x2560_0_2 main_arg3
  let main_c : IVec S_ 32 := constantI S_ 32 4#32
  let main_v3 : IVec S1x8x1 32 := broadcastInDim S1x8x1 ![] bcast_S_S1x8x1 main_c
  let main_v4 : IVec S1x8x1 32 := muli main_v3 main_v1
  let main_v5 : IVec S512x8x2560 32 := broadcastInDim S512x8x2560 ![0, 1, 2] bcast_S512x1x2560_S512x8x2560_0_1_2 main_v2
  let main_v6 : IVec S512x8x2560 32 := broadcastInDim S512x8x2560 ![0, 1, 2] bcast_S1x8x1_S512x8x2560_0_1_2 main_v4
  let main_v7 : IVec S512x8x2560 32 := Host.shrsi main_v5 main_v6
  let main_c_0 : IVec S_ 32 := constantI S_ 32 3#32
  let main_v8 : IVec S512x8x2560 32 := broadcastInDim S512x8x2560 ![] bcast_S_S512x8x2560 main_c_0
  let main_v9 : IVec S512x8x2560 32 := andi main_v7 main_v8
  let main_v10 : IVec S512x1x2560 32 := broadcastInDim S512x1x2560 ![0, 2] bcast_S512x2560_S512x1x2560_0_2 main_arg3
  let main_c_1 : IVec S_ 32 := constantI S_ 32 4#32
  let main_v11 : IVec S1x8x1 32 := broadcastInDim S1x8x1 ![] bcast_S_S1x8x1 main_c_1
  let main_v12 : IVec S1x8x1 32 := muli main_v11 main_v1
  let main_c_2 : IVec S_ 32 := constantI S_ 32 2#32
  let main_v13 : IVec S1x8x1 32 := broadcastInDim S1x8x1 ![] bcast_S_S1x8x1 main_c_2
  let main_v14 : IVec S1x8x1 32 := addi main_v12 main_v13
  let main_v15 : IVec S512x8x2560 32 := broadcastInDim S512x8x2560 ![0, 1, 2] bcast_S512x1x2560_S512x8x2560_0_1_2 main_v10
  let main_v16 : IVec S512x8x2560 32 := broadcastInDim S512x8x2560 ![0, 1, 2] bcast_S1x8x1_S512x8x2560_0_1_2 main_v14
  let main_v17 : IVec S512x8x2560 32 := Host.shrsi main_v15 main_v16
  let main_c_3 : IVec S_ 32 := constantI S_ 32 3#32
  let main_v18 : IVec S512x8x2560 32 := broadcastInDim S512x8x2560 ![] bcast_S_S512x8x2560 main_c_3
  fn_part1 (F := F) main_v9 main_v17 main_v18
-- ==== Kernel.lean ====
abbrev S2x768x16384 : Shape := ⟨3, ![2, 768, 16384]⟩
abbrev S2x768 : Shape := ⟨2, ![2, 768]⟩
abbrev S8192x2560 : Shape := ⟨2, ![8192, 2560]⟩
abbrev S512x2560 : Shape := ⟨2, ![512, 2560]⟩
abbrev S16384 : Shape := ⟨1, ![16384]⟩
abbrev S1536x16384 : Shape := ⟨2, ![1536, 16384]⟩
abbrev S1536x1 : Shape := ⟨2, ![1536, 1]⟩
abbrev S16x1x1024 : Shape := ⟨3, ![16, 1, 1024]⟩
abbrev S16x32x2560 : Shape := ⟨3, ![16, 32, 2560]⟩
abbrev S1536x2560 : Shape := ⟨2, ![1536, 2560]⟩
abbrev S1536x1024 : Shape := ⟨2, ![1536, 1024]⟩
abbrev S1x1x1024 : Shape := ⟨3, ![1, 1, 1024]⟩
abbrev S1x32x2560 : Shape := ⟨3, ![1, 32, 2560]⟩
abbrev S1024x2560 : Shape := ⟨2, ![1024, 2560]⟩
abbrev S1x1024 : Shape := ⟨2, ![1, 1024]⟩
abbrev S8x128 : Shape := ⟨2, ![8, 128]⟩
abbrev S32x128 : Shape := ⟨2, ![32, 128]⟩
abbrev S8x128x1 : Shape := ⟨3, ![8, 128, 1]⟩
abbrev S1x1x128 : Shape := ⟨3, ![1, 1, 128]⟩
abbrev S1x128 : Shape := ⟨2, ![1, 128]⟩
abbrev S1536x512 : Shape := ⟨2, ![1536, 512]⟩
abbrev S1024x512 : Shape := ⟨2, ![1024, 512]⟩

abbrev nBuf : Space → Nat
  | .hbm => 10
  | .vmem => 13
  | .smem => 0
  | _ => 0

abbrev bufTy : (tb : Table) → Fin (tcTables nBuf tb) → BufTy
  | .hbm, ⟨0, _⟩ => ⟨S2x768x16384, .fp8e5m2⟩
  | .hbm, ⟨1, _⟩ => ⟨S2x768, .f32⟩
  | .hbm, ⟨2, _⟩ => ⟨S8192x2560, .i8⟩
  | .hbm, ⟨3, _⟩ => ⟨S512x2560, .i32⟩
  | .hbm, ⟨4, _⟩ => ⟨S16384, .f32⟩
  | .hbm, ⟨5, _⟩ => ⟨S1536x16384, .fp8e5m2⟩
  | .hbm, ⟨6, _⟩ => ⟨S1536x1, .f32⟩
  | .hbm, ⟨7, _⟩ => ⟨S16x1x1024, .f32⟩
  | .hbm, ⟨8, _⟩ => ⟨S16x32x2560, .i32⟩
  | .hbm, ⟨9, _⟩ => ⟨S1536x2560, .bf16⟩
  | .local _ .vmem, ⟨0, _⟩ => ⟨S1536x1024, .fp8e5m2⟩
  | .local _ .vmem, ⟨1, _⟩ => ⟨S1536x1024, .fp8e5m2⟩
  | .local _ .vmem, ⟨2, _⟩ => ⟨S1x1x1024, .f32⟩
  | .local _ .vmem, ⟨3, _⟩ => ⟨S1x1x1024, .f32⟩
  | .local _ .vmem, ⟨4, _⟩ => ⟨S1536x1, .f32⟩
  | .local _ .vmem, ⟨5, _⟩ => ⟨S512x2560, .i8⟩
  | .local _ .vmem, ⟨6, _⟩ => ⟨S512x2560, .i8⟩
  | .local _ .vmem, ⟨7, _⟩ => ⟨S1x32x2560, .i32⟩
  | .local _ .vmem, ⟨8, _⟩ => ⟨S1x32x2560, .i32⟩
  | .local _ .vmem, ⟨9, _⟩ => ⟨S1536x2560, .bf16⟩
  | .local _ .vmem, ⟨10, _⟩ => ⟨S1536x2560, .f32⟩
  | .local _ .vmem, ⟨11, _⟩ => ⟨S1536x1024, .bf16⟩
  | .local _ .vmem, ⟨12, _⟩ => ⟨S1024x2560, .fp8e4m3⟩
  | _, _ => ⟨S2x768x16384, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v25689 : BitVec 1 := Scalar.cmpi .eq arg0 c15_i32
  let v25690 : BitVec 32 := Scalar.extui v25689
  let c0_i32_10865 : BitVec 32 := 0#32
  let v25691 : BitVec 1 := Scalar.cmpi .ne v25690 c0_i32_10865
  v25691

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x2560 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2x768x16384 : Shape := ⟨3, ![2, 768, 16384]⟩
abbrev S2x768 : Shape := ⟨2, ![2, 768]⟩
abbrev S8192x2560 : Shape := ⟨2, ![8192, 2560]⟩
abbrev S512x2560 : Shape := ⟨2, ![512, 2560]⟩
abbrev S16384 : Shape := ⟨1, ![16384]⟩
abbrev S1536x16384 : Shape := ⟨2, ![1536, 16384]⟩
abbrev S1536x1 : Shape := ⟨2, ![1536, 1]⟩
abbrev S1536x2560 : Shape := ⟨2, ![1536, 2560]⟩
abbrev S1x16x1 : Shape := ⟨3, ![1, 16, 1]⟩
abbrev S512x1x2560 : Shape := ⟨3, ![512, 1, 2560]⟩
abbrev S512x16x2560 : Shape := ⟨3, ![512, 16, 2560]⟩
abbrev S4096x2x2560 : Shape := ⟨3, ![4096, 2, 2560]⟩
abbrev S4096x2x1x2560 : Shape := ⟨4, ![4096, 2, 1, 2560]⟩
abbrev S1x1x4x1 : Shape := ⟨4, ![1, 1, 4, 1]⟩
abbrev S4096x2x4x2560 : Shape := ⟨4, ![4096, 2, 4, 2560]⟩
abbrev S4096x4x2560 : Shape := ⟨3, ![4096, 4, 2560]⟩
abbrev S16384x2560 : Shape := ⟨2, ![16384, 2560]⟩
abbrev S16384x1 : Shape := ⟨2, ![16384, 1]⟩

abbrev nBuf : Space → Nat
  | .hbm => 8
  | .vmem => 6
  | .smem => 0
  | _ => 0

abbrev bufTy : (tb : Table) → Fin (tcTables nBuf tb) → BufTy
  | .hbm, ⟨0, _⟩ => ⟨S2x768x16384, .fp8e5m2⟩
  | .hbm, ⟨1, _⟩ => ⟨S2x768, .f32⟩
  | .hbm, ⟨2, _⟩ => ⟨S8192x2560, .i8⟩
  | .hbm, ⟨3, _⟩ => ⟨S512x2560, .i32⟩
  | .hbm, ⟨4, _⟩ => ⟨S16384, .f32⟩
  | .hbm, ⟨5, _⟩ => ⟨S1536x16384, .fp8e5m2⟩
  | .hbm, ⟨6, _⟩ => ⟨S1536x1, .f32⟩
  | .hbm, ⟨7, _⟩ => ⟨S1536x2560, .bf16⟩
  | .local _ .vmem, ⟨0, _⟩ => ⟨S1536x16384, .fp8e5m2⟩
  | .local _ .vmem, ⟨1, _⟩ => ⟨S1536x1, .f32⟩
  | .local _ .vmem, ⟨2, _⟩ => ⟨S8192x2560, .i8⟩
  | .local _ .vmem, ⟨3, _⟩ => ⟨S512x2560, .i32⟩
  | .local _ .vmem, ⟨4, _⟩ => ⟨S16384, .f32⟩
  | .local _ .vmem, ⟨5, _⟩ => ⟨S1536x2560, .bf16⟩
  | _, _ => ⟨S2x768x16384, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x16384 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x2560 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tiles.lean ====
/-
  The expanded weight block as ONE family of tiles. The kernel's body writes its weight scratch in 640 stores,
  each of a 32 × 128 tile; here the tile is one function of the position and of the two loads it reads (`tileVal`),
  the 640 stores are one list (`tiles`), and the list the run found is that list.
-/
module

public import proofs.«01_k».proof.Proof.Gen.KernelIdeal.Frame.RunC
public import Idealize.ShloMosaic.Lib.Tactic

@[expose] public section

set_option maxRecDepth 16384

noncomputable section

namespace Cert.KernelIdeal.Dgrad

open Cert.KernelIdeal Cert.KernelIdeal.Gen Idealize.ShloMosaic Idealize.ShloMosaic.TcCoe Idealize.SL.Sem

variable {F : FTy → Type} [FloatOps F]

/-- The row numbers `0 … 7` of a register of words. -/
def sub : IVec S8x128 32 := iota .tc S8x128 32 [0] iota_S8x128_d0_w32

/-- Half `h` of the 8 words that 32 rows of codes make: the two codes word row `s` expands, in its low bytes. -/
def codes (h : Nat) (v : Vec F S32x128 .i8) : IVec S8x128 32 :=
  let w := addi (shrui sub (broadcast S8x128 1#32)) (broadcast S8x128 (BitVec.ofNat 32 (4 * h)))
  let idx := select (cmpi .slt w (broadcast S8x128 0#32)) (addi w (broadcast S8x128 8#32)) w
  let idx := shapeCast S8x128 (shapeCast S8x128x1 idx shapeCasts_S8x128_S8x128x1) shapeCasts_S8x128x1_S8x128
  shrui (dynamicGather 0 (bitcast S8x128 32 v bitcasts_S32x128_w8_S8x128_w32 : IVec S8x128 32) idx)
    (muli (andi sub (broadcast S8x128 1#32)) (broadcast S8x128 16#32))

/-- The position bits word row `s` expands with, in the low four bits: four bits a row of one word of positions. -/
def places (u : Vec F S1x1x128 .i32) : IVec S8x128 32 :=
  shrui (broadcastTo S8x128 (shapeCast S1x128 (shapeCast S1x128 u shapeCasts_S1x1x128_S1x128) shapeCasts_S1x128_S1x128)
    broadcasts_S1x128_S8x128) (muli sub (broadcast S8x128 4#32))

/-- Both codes of a group moved to the bytes their positions name. -/
def spread (v m : IVec S8x128 32) : IVec S8x128 32 :=
  ori (shli (andi v (broadcast S8x128 255#32)) (andi (shli m (broadcast S8x128 3#32)) (broadcast S8x128 24#32)))
    (shli (andi (shrui v (broadcast S8x128 8#32)) (broadcast S8x128 255#32)) (andi (shli m (broadcast S8x128 1#32)) (broadcast S8x128 24#32)))

/-- A tile of the expanded weights: half `h` of what 32 rows of codes expand to. -/
def tileVal (h : Nat) (v : Vec F S32x128 .i8) (u : Vec F S1x1x128 .i32) : FVec F S32x128 .fp8e4m3 :=
  shapeCast S32x128 (bitcastToFloat .fp8e4m3 (bitcast S32x128 8 (spread (codes h v) (places u)) bitcasts_S8x128_w32_S32x128_w8))
    shapeCasts_S32x128_S32x128

theorem inb7 (n : Nat) : ∀ a, (![0, 512 * (n % 5)] : Fin 2 → Nat) a + S1536x512.size a ≤ S1536x2560.size a := by
  intro a
  match a with
  | ⟨0, _⟩ => show 0 + 1536 ≤ 1536; omega
  | ⟨1, _⟩ => show 512 * (n % 5) + 512 ≤ 2560; omega

theorem inbR (n : Nat) : ∀ a, (![0, 512 * (n % 5)] : Fin 2 → Nat) a + S1024x512.size a ≤ S1024x2560.size a := by
  intro a
  match a with
  | ⟨0, _⟩ => show 0 + 1024 ≤ 1024; omega
  | ⟨1, _⟩ => show 512 * (n % 5) + 512 ≤ 2560; omega

/-- Tile `k` of 640: which half of an expansion, -/
abbrev th (k : Nat) : Nat := k % 2
/-- which 32 rows of codes, -/
abbrev ta (k : Nat) : Nat := k / 8 % 16
/-- which 128 columns. -/
abbrev tb (k : Nat) : Nat := 4 * (k / 128 % 5) + k / 2 % 4

theorem inb3 (k : Nat) : ∀ a, (![32 * ta k, 128 * tb k] : Fin 2 → Nat) a + S32x128.size a ≤ S512x2560.size a := by
  intro a
  match a with
  | ⟨0, _⟩ => show 32 * (k / 8 % 16) + 32 ≤ 512; omega
  | ⟨1, _⟩ => show 128 * (4 * (k / 128 % 5) + k / 2 % 4) + 128 ≤ 2560; omega

theorem inb4 (k : Nat) : ∀ a, (![0, 2 * ta k + th k, 128 * tb k] : Fin 3 → Nat) a + S1x1x128.size a ≤ S1x32x2560.size a := by
  intro a
  match a with
  | ⟨0, _⟩ => show 0 + 1 ≤ 1; omega
  | ⟨1, _⟩ => show 2 * (k / 8 % 16) + k % 2 + 1 ≤ 32; omega
  | ⟨2, _⟩ => show 128 * (4 * (k / 128 % 5) + k / 2 % 4) + 128 ≤ 2560; omega

theorem inb9 (k : Nat) : ∀ a, (![64 * ta k + 32 * th k, 128 * tb k] : Fin 2 → Nat) a + S32x128.size a ≤ S1024x2560.size a := by
  intro a
  match a with
  | ⟨0, _⟩ => show 64 * (k / 8 % 16) + 32 * (k % 2) + 32 ≤ 1024; omega
  | ⟨1, _⟩ => show 128 * (4 * (k / 128 % 5) + k / 2 % 4) + 128 ≤ 2560; omega

section Stores

variable (arg4 : Memref sig .tc .vmem S512x2560 .i8) (harg4 : arg4.IsWhole) (arg5 : Memref sig .tc .vmem S1x32x2560 .i32) (harg5 : arg5.IsWhole)
  (x3 : Vec F S512x2560 .i8) (x4 : Vec F S1x32x2560 .i32)

/-- Tile `k`'s store: its place, and its value over its two loads. -/
def tile (k : Nat) : View.Piece (Elt F) S1024x2560 .fp8e4m3 :=
  ⟨Rect.unit ![64 * ta k + 32 * th k, 128 * tb k] S32x128.size (inb9 k),
    tileVal (th k)
      (View.readAt (Elt F) arg4.view (Rect.unit (s := S512x2560) ![32 * ta k, 128 * tb k] S32x128.size (inb3 k)).toLoadRect (harg4.unread x3))
      (View.readAt (Elt F) arg5.view (Rect.unit (s := S1x32x2560) ![0, 2 * ta k + th k, 128 * tb k] S1x1x128.size (inb4 k)).toLoadRect (harg5.unread x4))⟩

/-- The first `n` stores, the last first. -/
def tiles : Nat → List (View.Piece (Elt F) S1024x2560 .fp8e4m3)
  | 0 => []
  | n + 1 => tile arg4 harg4 arg5 harg5 x3 x4 n :: tiles n

/-- Column chunk `n`'s store into the accumulator: what was there plus the product of the left block with the
    chunk of the expanded weights. -/
def chunk (l : Vec F S1536x1024 .bf16) (arg9 : Memref sig .tc .vmem S1024x2560 .fp8e4m3) (n : Nat) (v : Vec F S1536x512 .f32) :
    View.Piece (Elt F) S1536x2560 .f32 :=
  ⟨Rect.unit ![0, 512 * (n % 5)] S1536x512.size (inb7 n),
    shapeCast S1536x512 (addf v (matmul dot_S1536x1024_S1024x512_S1536x512_1_0_0_1_n_n none l
      (arg9.view.readCov (tiles arg4 harg4 arg5 harg5 x3 x4 640)
        (Rect.unit (s := S1024x2560) ![0, 512 * (n % 5)] S1024x512.size (inbR n)).toLoadRect : Vec F S1024x512 .fp8e4m3)
      (constant S1536x512 .f32 0x00000000#32))) shapeCasts_S1536x512_S1536x512⟩

variable (l : Vec F S1536x1024 .bf16) (arg7 : Memref sig .tc .vmem S1536x2560 .f32) (harg7 : arg7.IsWhole)
  (arg9 : Memref sig .tc .vmem S1024x2560 .fp8e4m3) (xs0 : Vec F S1536x2560 .f32)

/-- The first `n` chunks stored over an accumulator holding `xs0`, the last first. -/
def chunks : Nat → List (View.Piece (Elt F) S1536x2560 .f32)
  | 0 => []
  | n + 1 => chunk arg4 harg4 arg5 harg5 x3 x4 l arg9 n
      (View.readAt (Elt F) arg7.view (Rect.unit (s := S1536x2560) ![0, 512 * (n % 5)] S1536x512.size (inb7 n)).toLoadRect (harg7.unread xs0))
      :: chunks n

/-- The same at the first point, where the accumulator is zeroed before. -/
def chunksA : Nat → List (View.Piece (Elt F) S1536x2560 .f32)
  | 0 => [⟨Rect.unit ![0, 0] S1536x2560.size inb_S1536x2560_S1536x2560_0_0, k0_pay2⟩]
  | n + 1 => chunk arg4 harg4 arg5 harg5 x3 x4 l arg9 n
      (arg7.view.readCov (chunksA n) (Rect.unit (s := S1536x2560) ![0, 512 * (n % 5)] S1536x512.size (inb7 n)).toLoadRect)
      :: chunksA n

/-- The left block as the products read it: stored once, whole. -/
def left (arg1 : Memref sig .tc .vmem S1536x1024 .fp8e5m2) (harg1 : arg1.IsWhole) (arg2 : Memref sig .tc .vmem S1x1x1024 .f32) (harg2 : arg2.IsWhole)
    (arg8 : Memref sig .tc .vmem S1536x1024 .bf16) (x0 : Vec F S1536x1024 .fp8e5m2) (x1 : Vec F S1x1x1024 .f32) : Vec F S1536x1024 .bf16 :=
  arg8.view.readCov [⟨Rect.unit ![0, 0] S1536x1024.size inb_S1536x1024_S1536x1024_0_0,
      k0_pay3
        (View.readAt (Elt F) arg1.view (Rect.unit (s := S1536x1024) ![0, 0] S1536x1024.size inb_S1536x1024_S1536x1024_0_0).toLoadRect (harg1.unread x0))
        (View.readAt (Elt F) arg2.view (Rect.unit (s := S1x1x1024) ![0, 0, 0] S1x1x1024.size inb_S1x1x1024_S1x1x1024_0_0_0).toLoadRect (harg2.unread x1))⟩]
    (Rect.unit (s := S1536x1024) ![0, 0] S1536x1024.size inb_S1536x1024_S1536x1024_0_0).toLoadRect

end Stores

section Runs

variable (c : Dev nD) (i : grid0.Coords) (arg1 : Memref sig .tc .vmem S1536x1024 .fp8e5m2) (harg1 : arg1.IsWhole) (arg2 : Memref sig .tc .vmem S1x1x1024 .f32) (harg2 : arg2.IsWhole) (arg3 : Memref sig .tc .vmem S1536x1 .f32) (harg3 : arg3.IsWhole) (arg4 : Memref sig .tc .vmem S512x2560 .i8) (harg4 : arg4.IsWhole) (arg5 : Memref sig .tc .vmem S1x32x2560 .i32) (harg5 : arg5.IsWhole) (arg6 : Memref sig .tc .vmem S1536x2560 .bf16) (harg6 : arg6.IsWhole) (arg7 : Memref sig .tc .vmem S1536x2560 .f32) (harg7 : arg7.IsWhole) (arg8 : Memref sig .tc .vmem S1536x1024 .bf16) (harg8 : arg8.IsWhole) (arg9 : Memref sig .tc .vmem S1024x2560 .fp8e4m3) (harg9 : arg9.IsWhole)
  (x0 : Vec F S1536x1024 .fp8e5m2) (x1 : Vec F S1x1x1024 .f32) (x2 : Vec F S1536x1 .f32) (x3 : Vec F S512x2560 .i8) (x4 : Vec F S1x32x2560 .i32) (xs0 : Vec F S1536x2560 .f32)

/-- What the run leaves in the accumulator at the first point: zero, then the five chunks. -/
theorem acc_A (hc0 : cond0_0 i) (hc1 : ¬cond0_1 i) :
    (kernelRun0_A c i arg1 harg1 arg2 harg2 arg3 harg3 arg4 harg4 arg5 harg5 arg6 harg6 arg7 harg7 arg8 harg8 arg9 harg9 hc0 hc1 x0 x1 x2 x3 x4).2.1 = chunksA arg4 harg4 arg5 harg5 x3 x4 (left arg1 harg1 arg2 harg2 arg8 x0 x1) arg7 arg9 5 := by
  sl_kernel_rfl

/-- … at a middle point: the five chunks over what the point before left. -/
theorem acc_B (hc0 : ¬cond0_0 i) (hc1 : ¬cond0_1 i) :
    (kernelRun0_B c i arg1 harg1 arg2 harg2 arg3 harg3 arg4 harg4 arg5 harg5 arg6 harg6 arg7 harg7 arg8 harg8 arg9 harg9 hc0 hc1 x0 x1 x2 x3 x4 xs0).2.1 = chunks arg4 harg4 arg5 harg5 x3 x4 (left arg1 harg1 arg2 harg2 arg8 x0 x1) arg7 harg7 arg9 xs0 5 := by
  sl_kernel_rfl

/-- … at the last point: the same. -/
theorem acc_C (hc0 : ¬cond0_0 i) (hc1 : cond0_1 i) :
    (kernelRun0_C c i arg1 harg1 arg2 harg2 arg3 harg3 arg4 harg4 arg5 harg5 arg6 harg6 arg7 harg7 arg8 harg8 arg9 harg9 hc0 hc1 x0 x1 x2 x3 x4 xs0).2.1 = chunks arg4 harg4 arg5 harg5 x3 x4 (left arg1 harg1 arg2 harg2 arg8 x0 x1) arg7 harg7 arg9 xs0 5 := by
  sl_kernel_rfl

/-- The result's one store, at the last point: the accumulator as the chunks left it, scaled. -/
theorem out_C (hc0 : ¬cond0_0 i) (hc1 : cond0_1 i) :
    (kernelRun0_C c i arg1 harg1 arg2 harg2 arg3 harg3 arg4 harg4 arg5 harg5 arg6 harg6 arg7 harg7 arg8 harg8 arg9 harg9 hc0 hc1 x0 x1 x2 x3 x4 xs0).1 = [⟨Rect.unit ![0, 0] S1536x2560.size inb_S1536x2560_S1536x2560_0_0,
      k0_pay1
        (arg7.view.readCov (chunks arg4 harg4 arg5 harg5 x3 x4 (left arg1 harg1 arg2 harg2 arg8 x0 x1) arg7 harg7 arg9 xs0 5)
          (Rect.unit (s := S1536x2560) ![0, 0] S1536x2560.size inb_S1536x2560_S1536x2560_0_0).toLoadRect)
        (View.readAt (Elt F) arg3.view (Rect.unit (s := S1536x1) ![0, 0] S1536x1.size inb_S1536x1_S1536x1_0_0).toLoadRect (harg3.unread x2))⟩] := by
  sl_kernel_rfl

end Runs

end Cert.KernelIdeal.Dgrad

end
-- ==== Proof.Bits.lean ====
/-
  The words of the expansion, bit by bit: two codes in the low bytes of a word, moved to the bytes that two 2-bit
  positions name (`spread_byte`), and the bytes of a word shifted right (`shift_byte`).
-/
module

public import Idealize.ShloMosaic.Lib.BitcastFour
public import Idealize.ShloMosaic.Lib.Pointwise

@[expose] public section

set_option maxRecDepth 16384

namespace Cert.Sparse

open Idealize.ShloMosaic

/-- The 2-bit position `j` of a word of sixteen. -/
def posAt (w : BitVec 32) (j : Nat) : Nat := (w.extractLsb' (2 * j) 2).toNat

/-- The byte a group's row `g` holds, of codes `b0` and `b1` at positions `p0` and `p1`. -/
def joined (b0 b1 : BitVec 8) (p0 p1 g : Nat) : BitVec 8 :=
  (if p0 = g then b0 else 0) ||| (if p1 = g then b1 else 0)

theorem and_mask3 (m : BitVec 32) : (m <<< 3) &&& 24#32 = (m.extractLsb' 0 2).setWidth 32 <<< 3 := by
  apply BitVec.eq_of_getLsbD_eq
  intro i hi
  interval_cases i <;> simp [BitVec.getLsbD_and, BitVec.getLsbD_shiftLeft, BitVec.getLsbD_setWidth, BitVec.getLsbD_extractLsb']

theorem and_mask1 (m : BitVec 32) : (m <<< 1) &&& 24#32 = (m.extractLsb' 2 2).setWidth 32 <<< 3 := by
  apply BitVec.eq_of_getLsbD_eq
  intro i hi
  interval_cases i <;> simp [BitVec.getLsbD_and, BitVec.getLsbD_shiftLeft, BitVec.getLsbD_setWidth, BitVec.getLsbD_extractLsb']

/-- One code moved to byte `p`, read at byte `g`. -/
theorem moved_byte (v : BitVec 32) (p : BitVec 2) (g : Nat) (hg : g < 4) :
    ((IntOp.shli .vector (v &&& 255#32) (p.setWidth 32 <<< 3)).extractLsb' (8 * g) 8) = if p.toNat = g then v.extractLsb' 0 8 else 0 := by
  have hp : p = 0#2 ∨ p = 1#2 ∨ p = 2#2 ∨ p = 3#2 := by revert p; decide
  apply BitVec.eq_of_getLsbD_eq
  intro i hi
  rcases hp with rfl | rfl | rfl | rfl <;> interval_cases g <;> interval_cases i <;>
    simp [IntOp.shli, BitVec.getLsbD_and, BitVec.getLsbD_shiftLeft, BitVec.getLsbD_extractLsb']

/-- Two codes moved to the bytes their positions name, read at byte `g`. -/
theorem spread_byte (v m : BitVec 32) (g : Nat) (hg : g < 4) :
    (IntOp.ori (IntOp.shli .vector (IntOp.andi v 255#32) (IntOp.andi (IntOp.shli .vector m 3#32) 24#32))
      (IntOp.shli .vector (IntOp.andi (IntOp.shrui .vector v 8#32) 255#32) (IntOp.andi (IntOp.shli .vector m 1#32) 24#32))).extractLsb' (8 * g) 8
      = joined (v.extractLsb' 0 8) (v.extractLsb' 8 8) (posAt m 0) (posAt m 1) g := by
  have e3 : IntOp.andi (IntOp.shli .vector m 3#32) 24#32 = (m.extractLsb' 0 2).setWidth 32 <<< 3 := and_mask3 m
  have e1 : IntOp.andi (IntOp.shli .vector m 1#32) 24#32 = (m.extractLsb' 2 2).setWidth 32 <<< 3 := and_mask1 m
  have e8 : IntOp.shrui .vector v 8#32 = v >>> 8 := rfl
  have eb : (v >>> 8).extractLsb' 0 8 = v.extractLsb' 8 8 := by
    apply BitVec.eq_of_getLsbD_eq
    intro i hi
    simp [BitVec.getLsbD_extractLsb', hi]
  have eo : ∀ a b : BitVec 32, (IntOp.ori a b).extractLsb' (8 * g) 8 = a.extractLsb' (8 * g) 8 ||| b.extractLsb' (8 * g) 8 := fun a b => by
    apply BitVec.eq_of_getLsbD_eq
    intro i hi
    simp [IntOp.ori, BitVec.getLsbD_extractLsb', BitVec.getLsbD_or, hi]
  rw [e3, e1, e8, eo]
  show (IntOp.shli .vector (v &&& 255#32) _).extractLsb' _ _ ||| (IntOp.shli .vector ((v >>> 8) &&& 255#32) _).extractLsb' _ _ = _
  rw [moved_byte v _ g hg, moved_byte (v >>> 8) _ g hg, eb]
  rfl

/-- A word shifted right by a multiple of four: its low positions are positions further up. -/
theorem posAt_shift (w : BitVec 32) (s j : Nat) (hs : s < 8) (hj : j < 2) :
    posAt (IntOp.shrui .vector w (BitVec.ofNat 32 (4 * s))) j = posAt w (2 * s + j) := by
  unfold posAt
  congr 1
  have e : IntOp.shrui .vector w (BitVec.ofNat 32 (4 * s)) = w >>> (4 * s) := by
    interval_cases s <;> rfl
  rw [e]
  apply BitVec.eq_of_getLsbD_eq
  intro i hi
  simp only [BitVec.getLsbD_extractLsb', hi, decide_true, Bool.true_and, BitVec.getLsbD_ushiftRight]
  congr 1
  omega

/-- An arithmetic shift and a mask read a position too. -/
theorem and3_shift (w : BitVec 32) (j : Nat) (hj : j < 16) :
    IntOp.andi (IntOp.shrsi .vector w (BitVec.ofNat 32 (2 * j))) 3#32 = BitVec.ofNat 32 (posAt w j) := by
  have e : IntOp.shrsi .vector w (BitVec.ofNat 32 (2 * j)) = w.sshiftRight (2 * j) := by
    interval_cases j <;> rfl
  have e2 : BitVec.ofNat 32 (posAt w j) = (w.extractLsb' (2 * j) 2).setWidth 32 := by
    unfold posAt; rw [BitVec.ofNat_toNat]
  rw [e, e2]
  apply BitVec.eq_of_getLsbD_eq
  intro i hi
  have h3 : (3#32 : BitVec 32).getLsbD i = decide (i < 2) := by interval_cases i <;> rfl
  simp only [IntOp.andi, BitVec.getLsbD_and, BitVec.getLsbD_setWidth, BitVec.getLsbD_extractLsb', h3, BitVec.getLsbD_sshiftRight]
  by_cases h : i < 2
  · simp [h, show ¬ 32 ≤ i by omega, show 2 * j + i < 32 by omega, hi]
  · simp [h]

/-- The byte at `k`, as the low byte of the word shifted right by `16 · a`. -/
theorem shift_byte (w : BitVec 32) (a k : Nat) (ha : a < 2) (hk : k < 2) :
    (IntOp.shrui .vector w (BitVec.ofNat 32 (16 * a))).extractLsb' (8 * k) 8 = w.extractLsb' (8 * (2 * a + k)) 8 := by
  have e : IntOp.shrui .vector w (BitVec.ofNat 32 (16 * a)) = w >>> (16 * a) := by
    interval_cases a <;> rfl
  rw [e]
  apply BitVec.eq_of_getLsbD_eq
  intro i hi
  simp only [BitVec.getLsbD_extractLsb', hi, decide_true, Bool.true_and, BitVec.getLsbD_ushiftRight]
  congr 1
  omega

/-- Four rows of bytes read as a word: byte `k` is row `4a + k`. -/
theorem word_byte {R r n : Nat} (x : (⟨2, ![R, n]⟩ : Shape).Idx → BitVec 8)
    (h : (⟨2, ![R, n]⟩ : Shape).Bitcasts 8 ⟨2, ![r, n]⟩ 32) (a : Fin r) (l : Fin n) (k : Nat) (hk : k < 4) (p : Fin R)
    (hp : p.val = 4 * a.val + k) :
    (bitcast ⟨2, ![r, n]⟩ 32 x h (ix2 a l)).extractLsb' (8 * k) 8 = x (ix2 p l) := by
  apply BitVec.eq_of_getLsbD_eq
  intro i hi
  rw [BitVec.getLsbD_extractLsb']
  simp only [hi, decide_true, Bool.true_and]
  rw [ix2_eq_valueIdx, ix2_eq_valueIdx, bitcast_8_32_getLsbD_ix2 x h a l (8 * k + i) (by omega) p (by omega)]
  congr 1
  omega

/-- Words read as four rows of bytes each: row `i` is byte `i % 4` of word row `i / 4`. -/
theorem byte_word {R r n : Nat} (x : (⟨2, ![r, n]⟩ : Shape).Idx → BitVec 32)
    (h : (⟨2, ![r, n]⟩ : Shape).Bitcasts 32 ⟨2, ![R, n]⟩ 8) (i : Fin R) (l : Fin n) (p : Fin r) (hp : p.val = i.val / 4) :
    bitcast ⟨2, ![R, n]⟩ 8 x h (ix2 i l) = (x (ix2 p l)).extractLsb' (8 * (i.val % 4)) 8 := by
  apply BitVec.eq_of_getLsbD_eq
  intro q hq
  rw [bitcast_getLsbD x h _ q hq (by decide), BitVec.getLsbD_extractLsb']
  simp only [hq, decide_true, Bool.true_and]
  have hrow : (⟨2, ![R, n]⟩ : Shape).row (ix2 i l) = i.val := rfl
  congr 2
  · funext c
    match c with
    | ⟨0, _⟩ => exact Fin.ext ((h.srcIdx_row _ _ _ ⟨0, Nat.zero_lt_two⟩ rfl).trans (by rw [hrow]; show (i.val * 8 + q) / 32 = p.val; omega))
    | ⟨1, _⟩ => exact Fin.ext (h.srcIdx_other _ _ _ ⟨1, Nat.one_lt_two⟩ (by show ¬ 1 + 2 = 2; omega))
  · rw [hrow]; omega

end Cert.Sparse
-- ==== Proof.Weights.lean ====
/-
  What the 640 stores leave in the weight scratch: ONE function of the block of codes and the block of positions
  (`weights`), read at any place (`canon_tiles`).
-/
module

public import proofs.«01_k».proof.Proof.Tiles
public import proofs.«01_k».proof.Proof.Bits
public import Idealize.ShloMosaic.Lib.Pipeline.Value

@[expose] public section

set_option maxRecDepth 16384

noncomputable section

namespace Cert.KernelIdeal.Dgrad

open Cert.KernelIdeal Cert.KernelIdeal.Gen Idealize.ShloMosaic Idealize.ShloMosaic.TcCoe Idealize.SL.Sem
open Cert.Sparse

variable {F : FTy → Type} [FloatOps F]

/-- The row of words a half's word row `s` reads, as the program computes it. -/
theorem word_row : ∀ (h : Fin 2) (s : Fin 8),
    (Scalar.select (IntOp.cmpi .slt (IntOp.addi (IntOp.shrui .vector (BitVec.ofNat 32 s.val) 1#32) (BitVec.ofNat 32 (4 * h.val))) 0#32)
      (IntOp.addi (IntOp.addi (IntOp.shrui .vector (BitVec.ofNat 32 s.val) 1#32) (BitVec.ofNat 32 (4 * h.val))) 8#32)
      (IntOp.addi (IntOp.shrui .vector (BitVec.ofNat 32 s.val) 1#32) (BitVec.ofNat 32 (4 * h.val)))).toNat % 8 = s.val / 2 + 4 * h.val := by
  decide

theorem half_shift : ∀ s : Fin 8,
    IntOp.muli (IntOp.andi (BitVec.ofNat 32 s.val) 1#32) 16#32 = BitVec.ofNat 32 (16 * (s.val % 2)) := by decide

theorem meta_shift : ∀ s : Fin 8, IntOp.muli (BitVec.ofNat 32 s.val) 4#32 = BitVec.ofNat 32 (4 * s.val) := by decide

theorem sub_apply (s : Fin 8) (c : Fin 128) : sub (ix2 s c) = BitVec.ofNat 32 s.val := by
  show BitVec.ofNat 32 (0 * 8 + s.val) = _
  rw [Nat.zero_mul, Nat.zero_add]

theorem codes_apply (h : Fin 2) (v : Vec F S32x128 .i8) (s : Fin 8) (c : Fin 128) :
    codes h.val v (ix2 s c) = IntOp.shrui .vector
      ((bitcast S8x128 32 v bitcasts_S32x128_w8_S8x128_w32 : IVec S8x128 32) (ix2 ⟨s.val / 2 + 4 * h.val, by omega⟩ c))
      (BitVec.ofNat 32 (16 * (s.val % 2))) := by
  unfold codes
  rw [shapeCast_shapeCast, ← half_shift s, ← sub_apply s c]
  refine congrArg (fun w => IntOp.shrui .vector w _) ?_
  unfold dynamicGather
  refine congrArg (bitcast S8x128 32 v bitcasts_S32x128_w8_S8x128_w32) ?_
  funext b
  match b with
  | ⟨0, _⟩ =>
    apply Fin.ext
    show (Scalar.select (IntOp.cmpi .slt (IntOp.addi (IntOp.shrui .vector (sub (ix2 s c)) 1#32) (BitVec.ofNat 32 (4 * h.val))) 0#32)
      (IntOp.addi (IntOp.addi (IntOp.shrui .vector (sub (ix2 s c)) 1#32) (BitVec.ofNat 32 (4 * h.val))) 8#32)
      (IntOp.addi (IntOp.shrui .vector (sub (ix2 s c)) 1#32) (BitVec.ofNat 32 (4 * h.val)))).toNat % 8 = s.val / 2 + 4 * h.val
    rw [sub_apply]
    exact word_row h s
  | ⟨1, _⟩ => rfl

theorem places_apply (u : Vec F S1x1x128 .i32) (s : Fin 8) (c : Fin 128) :
    places u (ix2 s c) = IntOp.shrui .vector (u (ix3 0 0 c)) (BitVec.ofNat 32 (4 * s.val)) := by
  rw [← meta_shift s, ← sub_apply s c]
  unfold places
  pointwise

/-- A tile's row `i` is a byte of its group: two codes of 32, at two positions of one word's sixteen. -/
theorem tileVal_apply (h : Fin 2) (v : Vec F S32x128 .i8) (u : Vec F S1x1x128 .i32) (i : Fin 32) (c : Fin 128) :
    tileVal h.val v u (ix2 i c) = FloatOps.ofBits .fp8e4m3
      (joined (v (ix2 ⟨16 * h.val + 2 * (i.val / 4), by omega⟩ c)) (v (ix2 ⟨16 * h.val + 2 * (i.val / 4) + 1, by omega⟩ c))
        (posAt (u (ix3 0 0 c)) (2 * (i.val / 4))) (posAt (u (ix3 0 0 c)) (2 * (i.val / 4) + 1)) (i.val % 4)) := by
  unfold tileVal
  rw [shapeCast_self]
  show FloatOps.ofBits .fp8e4m3 (bitcast S32x128 8 (spread (codes h.val v) (places u)) bitcasts_S8x128_w32_S32x128_w8 (ix2 i c)) = _
  congr 1
  rw [byte_word _ _ i c ⟨i.val / 4, by omega⟩ rfl]
  generalize hs : (⟨i.val / 4, by omega⟩ : Fin 8) = s
  have hs' : i.val / 4 = s.val := congrArg Fin.val hs
  refine (spread_byte (codes h.val v (ix2 s c)) (places u (ix2 s c)) (i.val % 4) (by omega)).trans ?_
  rw [codes_apply, places_apply, posAt_shift _ s.val 0 s.isLt (by omega), posAt_shift _ s.val 1 s.isLt (by omega)]
  have b0 := shift_byte ((bitcast S8x128 32 v bitcasts_S32x128_w8_S8x128_w32 : IVec S8x128 32) (ix2 ⟨s.val / 2 + 4 * h.val, by omega⟩ c))
    (s.val % 2) 0 (by omega) (by omega)
  have b1 := shift_byte ((bitcast S8x128 32 v bitcasts_S32x128_w8_S8x128_w32 : IVec S8x128 32) (ix2 ⟨s.val / 2 + 4 * h.val, by omega⟩ c))
    (s.val % 2) 1 (by omega) (by omega)
  rw [Nat.mul_zero] at b0
  rw [Nat.mul_one] at b1
  rw [b0, b1, word_byte v _ _ c (2 * (s.val % 2) + 0) (by omega) ⟨16 * h.val + 2 * (i.val / 4), by omega⟩ (by dsimp only; omega),
    word_byte v _ _ c (2 * (s.val % 2) + 1) (by omega) ⟨16 * h.val + 2 * (i.val / 4) + 1, by omega⟩ (by dsimp only; omega)]
  simp only [hs', Nat.add_zero]

/-- The expanded weights of a block of 512 rows of codes and 32 rows of words: dense row `r` is row `r % 4` of group `r / 4`. -/
def weights (x3 : Vec F S512x2560 .i8) (x4 : Vec F S1x32x2560 .i32) : FVec F S1024x2560 .fp8e4m3 := fun y =>
  have h0 : (y 0).val < 1024 := (y 0).isLt
  FloatOps.ofBits .fp8e4m3
    (joined (x3 (ix2 ⟨2 * ((y 0).val / 4), by omega⟩ (y 1))) (x3 (ix2 ⟨2 * ((y 0).val / 4) + 1, by omega⟩ (y 1)))
      (posAt (x4 (ix3 0 ⟨(y 0).val / 32, by omega⟩ (y 1))) (2 * ((y 0).val / 4 % 8)))
      (posAt (x4 (ix3 0 ⟨(y 0).val / 32, by omega⟩ (y 1))) (2 * ((y 0).val / 4 % 8) + 1)) ((y 0).val % 4))

section Stores

variable (arg4 : Memref sig .tc .vmem S512x2560 .i8) (harg4 : arg4.IsWhole) (arg5 : Memref sig .tc .vmem S1x32x2560 .i32) (harg5 : arg5.IsWhole)
  (x3 : Vec F S512x2560 .i8) (x4 : Vec F S1x32x2560 .i32)

theorem tile_mem : ∀ (n k : Nat), k < n → tile arg4 harg4 arg5 harg5 x3 x4 k ∈ tiles arg4 harg4 arg5 harg5 x3 x4 n
  | 0, _, h => absurd h (Nat.not_lt_zero _)
  | n + 1, k, h => by
    by_cases e : k = n
    · subst e; exact List.mem_cons_self
    · exact List.mem_cons_of_mem _ (tile_mem n k (by omega))

theorem mem_tile : ∀ (n : Nat) (p : View.Piece (Elt F) S1024x2560 .fp8e4m3), p ∈ tiles arg4 harg4 arg5 harg5 x3 x4 n →
    ∃ k, p = tile arg4 harg4 arg5 harg5 x3 x4 k
  | 0, _, h => absurd h List.not_mem_nil
  | n + 1, p, h => by
    rcases List.mem_cons.mp h with e | h
    · exact ⟨n, e⟩
    · exact mem_tile n p h

/-- Every tile is the piece of `weights` its rectangle names. -/
theorem tile_apply (k : Nat) (x : S32x128.Idx) :
    (tile arg4 harg4 arg5 harg5 x3 x4 k).2 x = weights x3 x4 ((tile arg4 harg4 arg5 harg5 x3 x4 k).1.emb x) := by
  obtain ⟨i, c, rfl⟩ : ∃ (i : Fin 32) (c : Fin 128), x = ix2 i c := ⟨x 0, x 1, eq_ix2 x⟩
  have hi : i.val < 32 := i.isLt
  have hc : c.val < 128 := c.isLt
  show tileVal (⟨th k, by unfold th; omega⟩ : Fin 2).val _ _ (ix2 i c) = _
  rw [tileVal_apply, View.readAt_eq_ld, View.readAt_eq_ld]
  rw [harg4.read_unread, harg5.read_unread]
  unfold weights
  dsimp only
  have e0 : (((tile arg4 harg4 arg5 harg5 x3 x4 k).1.emb (ix2 i c)) 0).val = 64 * ta k + 32 * th k + i.val := by
    show 64 * ta k + 32 * th k + 1 * i.val = _
    omega
  have e1 : (((tile arg4 harg4 arg5 harg5 x3 x4 k).1.emb (ix2 i c)) 1).val = 128 * tb k + c.val := by
    show 128 * tb k + 1 * c.val = _
    omega
  have q : (64 * ta k + 32 * th k + i.val) / 4 = 16 * ta k + 8 * th k + i.val / 4 := by omega
  have ht : th k < 2 := by unfold th; omega
  have l3 : ∀ (a : Fin 32) (b : Fin 512), b.val = 32 * ta k + a.val →
      View.ld x3 (Rect.unit (s := S512x2560) ![32 * ta k, 128 * tb k] S32x128.size (inb3 k)) (ix2 a c)
        = x3 (ix2 b (((tile arg4 harg4 arg5 harg5 x3 x4 k).1.emb (ix2 i c)) 1)) := fun a b hb => by
    show x3 _ = x3 _
    congr 1
    funext d
    match d with
    | ⟨0, _⟩ => apply Fin.ext; show 32 * ta k + 1 * a.val = b.val; omega
    | ⟨1, _⟩ => rfl
  have l4 : ∀ (b : Fin 32), b.val = 2 * ta k + th k →
      View.ld x4 (Rect.unit (s := S1x32x2560) ![0, 2 * ta k + th k, 128 * tb k] S1x1x128.size (inb4 k)) (ix3 0 0 c)
        = x4 (ix3 0 b (((tile arg4 harg4 arg5 harg5 x3 x4 k).1.emb (ix2 i c)) 1)) := fun b hb => by
    show x4 _ = x4 _
    congr 1
    funext d
    match d with
    | ⟨0, _⟩ => rfl
    | ⟨1, _⟩ => apply Fin.ext; show 2 * ta k + th k + 1 * 0 = b.val; omega
    | ⟨2, _⟩ => rfl
  simp only [e0]
  rw [l3 _ ⟨2 * ((64 * ta k + 32 * th k + i.val) / 4), by have := inb9 k 0; simp at this; omega⟩ (by dsimp only; omega),
    l3 _ ⟨2 * ((64 * ta k + 32 * th k + i.val) / 4) + 1, by have := inb9 k 0; simp at this; omega⟩ (by dsimp only; omega),
    l4 ⟨(64 * ta k + 32 * th k + i.val) / 32, by have := inb9 k 0; simp at this; omega⟩ (by dsimp only; omega)]
  have m8 : (64 * ta k + 32 * th k + i.val) / 4 % 8 = i.val / 4 := by omega
  have m4 : (64 * ta k + 32 * th k + i.val) % 4 = i.val % 4 := by omega
  rw [m8, m4]

/-- The 640 tiles cover the block. -/
theorem tiles_cover (y : S1024x2560.Idx) : ∃ p ∈ tiles arg4 harg4 arg5 harg5 x3 x4 640, y ∈ p.1.set := by
  have h0 : (y 0).val < 1024 := (y 0).isLt
  have h1 : (y 1).val < 2560 := (y 1).isLt
  -- the tile of row `r`, column `c`
  obtain ⟨k, hk⟩ : ∃ k, k = 128 * ((y 1).val / 512) + 8 * ((y 0).val / 64) + 2 * ((y 1).val / 128 % 4) + (y 0).val / 32 % 2 := ⟨_, rfl⟩
  refine ⟨_, tile_mem arg4 harg4 arg5 harg5 x3 x4 640 k (by omega), ?_⟩
  have hq : k / 128 = (y 1).val / 512 := by omega
  have hw : k / 2 % 4 = (y 1).val / 128 % 4 := by omega
  have h5 : (y 1).val / 512 < 5 := by omega
  have k0 : 64 * ta k + 32 * th k = 32 * ((y 0).val / 32) := by unfold ta th; omega
  have k1 : 128 * tb k = 128 * ((y 1).val / 128) := by unfold tb; rw [hq, hw, Nat.mod_eq_of_lt h5]; omega
  refine (tile arg4 harg4 arg5 harg5 x3 x4 k).1.mem_set.mpr fun a => ?_
  match a with
  | ⟨0, _⟩ => exact ⟨(y 0).val % 32, by show _ < 32; omega, by show (y 0).val = 64 * ta k + 32 * th k + 1 * _; omega⟩
  | ⟨1, _⟩ => exact ⟨(y 1).val % 128, by show _ < 128; omega, by show (y 1).val = 128 * tb k + 1 * _; omega⟩

/-- What the 640 stores leave. -/
theorem canon_tiles : View.canon (tiles arg4 harg4 arg5 harg5 x3 x4 640) = weights x3 x4 :=
  funext fun y => View.canon_apply_of_pieces (weights x3 x4) _
    (fun p hp x => by
      obtain ⟨k, rfl⟩ := mem_tile arg4 harg4 arg5 harg5 x3 x4 640 p hp
      exact tile_apply arg4 harg4 arg5 harg5 x3 x4 k x)
    y (tiles_cover arg4 harg4 arg5 harg5 x3 x4 y)

end Stores

end Cert.KernelIdeal.Dgrad

end
-- ==== Proof.Point.lean ====
/-
  One grid point over the extended reals: what its body leaves in the accumulator is what the accumulator held plus the
  point's product (`sout_A`, `sout_B`), and what the last point leaves in the result's block is that, scaled
  (`out_C_value`).
-/
module

public import proofs.«01_k».proof.Proof.Weights
public import proofs.«01_k».proof.Proof.Gen.KernelIdeal.Frame

@[expose] public section

set_option maxRecDepth 16384

noncomputable section

namespace Cert.KernelIdeal.Dgrad

open Cert.KernelIdeal Cert.KernelIdeal.Gen Idealize.ShloMosaic Idealize.ShloMosaic.TcCoe Idealize.SL.Sem
open Cert.Sparse

theorem hz2 : (![0, 0] : Fin 2 → Nat) = fun _ => 0 := funext fun a => by fin_cases a <;> rfl
theorem hz3 : (![0, 0, 0] : Fin 3 → Nat) = fun _ => 0 := funext fun a => by fin_cases a <;> rfl

/-- A row of the left block times a column of the weights. -/
def dotAt (l : Vec Ideal S1536x1024 .bf16) (W : FVec Ideal S1024x2560 .fp8e4m3) (y : S1536x2560.Idx) : EReal :=
  ∑ k : Fin 1024, (l (ix2 (y 0) k) : EReal) * (W (ix2 k (y 1)) : EReal)

/-- A chunk's payload at an entry. -/
theorem product_apply (v : FVec Ideal S1536x512 .f32) (l : FVec Ideal S1536x1024 .bf16) (X : FVec Ideal S1024x512 .fp8e4m3)
    (i : Fin 1536) (j : Fin 512) :
    ((shapeCast S1536x512 (addf v (matmul dot_S1536x1024_S1024x512_S1536x512_1_0_0_1_n_n none l X
      (constant S1536x512 .f32 0x00000000#32))) shapeCasts_S1536x512_S1536x512 : FVec Ideal S1536x512 .f32) (ix2 i j) : EReal)
      = (v (ix2 i j) : EReal) + ∑ k : Fin 1024, (l (ix2 i k) : EReal) * (X (ix2 k j) : EReal) := by
  pointwise

section Stores

variable (arg4 : Memref sig .tc .vmem S512x2560 .i8) (harg4 : arg4.IsWhole) (arg5 : Memref sig .tc .vmem S1x32x2560 .i32) (harg5 : arg5.IsWhole)
  (x3 : Vec Ideal S512x2560 .i8) (x4 : Vec Ideal S1x32x2560 .i32)
  (l : Vec Ideal S1536x1024 .bf16) (arg7 : Memref sig .tc .vmem S1536x2560 .f32) (harg7 : arg7.IsWhole)
  (arg9 : Memref sig .tc .vmem S1024x2560 .fp8e4m3) (xs0 : Vec Ideal S1536x2560 .f32)

/-- A chunk's value: what it read plus the product of the left block and its columns of the weights. -/
theorem chunk_apply (n : Nat) (v : Vec Ideal S1536x512 .f32) (i : Fin 1536) (j : Fin 512) :
    ((chunk arg4 harg4 arg5 harg5 x3 x4 l arg9 n v).2 (ix2 i j) : EReal)
      = (v (ix2 i j) : EReal) + dotAt l (weights x3 x4) ((chunk arg4 harg4 arg5 harg5 x3 x4 l arg9 n v).1.emb (ix2 i j)) := by
  have hW : (arg9.view.readCov (tiles arg4 harg4 arg5 harg5 x3 x4 640)
        (Rect.unit (s := S1024x2560) ![0, 512 * (n % 5)] S1024x512.size (inbR n)).toLoadRect : Vec Ideal S1024x512 .fp8e4m3)
      = View.ld (Val := Elt Ideal) (e' := EltTy.fp8e4m3) (weights x3 x4) (Rect.unit (s := S1024x2560) ![0, 512 * (n % 5)] S1024x512.size (inbR n)) := by
    rw [View.readCov_eq_canon', canon_tiles]
  show ((shapeCast S1536x512 (addf v (matmul dot_S1536x1024_S1024x512_S1536x512_1_0_0_1_n_n none l _
      (constant S1536x512 .f32 0x00000000#32))) shapeCasts_S1536x512_S1536x512 : FVec Ideal S1536x512 .f32) (ix2 i j) : EReal) = _
  rw [hW]
  generalize hX : View.ld (Val := Elt Ideal) (e' := EltTy.fp8e4m3) (weights x3 x4) (Rect.unit (s := S1024x2560) ![0, 512 * (n % 5)] S1024x512.size (inbR n)) = X
  refine (product_apply v l X i j).trans ?_
  subst hX
  unfold dotAt
  refine congrArg (fun z => (v (ix2 i j) : EReal) + z) (Finset.sum_congr rfl fun k _ => ?_)
  refine congrArg₂ (fun a b : EReal => a * b) (congrArg l ?_) (congrArg (weights x3 x4) ?_)
  · funext d
    match d with
    | ⟨0, _⟩ => apply Fin.ext; show i.val = 0 + 1 * i.val; omega
    | ⟨1, _⟩ => rfl
  · funext d
    match d with
    | ⟨0, _⟩ => apply Fin.ext; show 0 + 1 * k.val = k.val; omega
    | ⟨1, _⟩ => rfl

/-- The columns a chunk stores, -/
theorem chunk_hit (n : Nat) (hn : n < 5) (v : Vec Ideal S1536x512 .f32) (L : List (View.Piece (Elt Ideal) S1536x2560 .f32))
    (y : S1536x2560.Idx) (hy : (y 1).val / 512 = n) :
    (View.canon (chunk arg4 harg4 arg5 harg5 x3 x4 l arg9 n v :: L) y : EReal)
      = (v (ix2 (y 0) ⟨(y 1).val % 512, Nat.mod_lt _ (by decide)⟩) : EReal) + dotAt l (weights x3 x4) y := by
  have hx : (chunk arg4 harg4 arg5 harg5 x3 x4 l arg9 n v).1.emb (ix2 (y 0) ⟨(y 1).val % 512, Nat.mod_lt _ (by decide)⟩) = y := by
    funext d
    match d with
    | ⟨0, _⟩ => apply Fin.ext; show 0 + 1 * (y 0).val = (y 0).val; omega
    | ⟨1, _⟩ => apply Fin.ext; show 512 * (n % 5) + 1 * ((y 1).val % 512) = (y 1).val; omega
  have hv := chunk_apply arg4 harg4 arg5 harg5 x3 x4 l arg9 n v (y 0) ⟨(y 1).val % 512, Nat.mod_lt _ (by decide)⟩
  rw [hx] at hv
  refine Eq.trans ?_ hv
  conv_lhs => rw [← hx]
  exact View.canon_cons_emb (chunk arg4 harg4 arg5 harg5 x3 x4 l arg9 n v).1 (chunk arg4 harg4 arg5 harg5 x3 x4 l arg9 n v).2 L _

/-- and those it does not. -/
theorem chunk_miss (n : Nat) (hn : n < 5) (v : Vec Ideal S1536x512 .f32) (L : List (View.Piece (Elt Ideal) S1536x2560 .f32))
    (y : S1536x2560.Idx) (hy : (y 1).val / 512 ≠ n) :
    View.canon (chunk arg4 harg4 arg5 harg5 x3 x4 l arg9 n v :: L) y = View.canon L y := by
  refine View.canon_cons_of_not_mem _ _ fun hm => ?_
  obtain ⟨j, hj, h⟩ := (chunk arg4 harg4 arg5 harg5 x3 x4 l arg9 n v).1.mem_set.mp hm 1
  have hj' : j < 512 := hj
  have h' : (y 1).val = 512 * (n % 5) + 1 * j := h
  omega

/-- Over an accumulator holding `xs0`. -/
theorem canon_chunks : ∀ (n : Nat), n ≤ 5 → ∀ y : S1536x2560.Idx, (y 1).val / 512 < n →
    (View.canon (chunks arg4 harg4 arg5 harg5 x3 x4 l arg7 harg7 arg9 xs0 n) y : EReal) = (xs0 y : EReal) + dotAt l (weights x3 x4) y
  | 0, _, y, h => absurd h (Nat.not_lt_zero _)
  | n + 1, hn, y, h => by
    unfold chunks
    by_cases hy : (y 1).val / 512 = n
    · rw [chunk_hit arg4 harg4 arg5 harg5 x3 x4 l arg9 n (by omega) _ _ y hy, View.readAt_eq_ld, harg7.read_unread]
      refine congrArg (fun z : EReal => z + dotAt l (weights x3 x4) y) (congrArg xs0 ?_)
      funext d
      match d with
      | ⟨0, _⟩ => apply Fin.ext; show 0 + 1 * (y 0).val = (y 0).val; omega
      | ⟨1, _⟩ => apply Fin.ext; show 512 * (n % 5) + 1 * ((y 1).val % 512) = (y 1).val; omega
    · rw [chunk_miss arg4 harg4 arg5 harg5 x3 x4 l arg9 n (by omega) _ _ y hy]
      exact canon_chunks n (by omega) y (by omega)

/-- Over a zeroed one. -/
theorem canon_chunksA : ∀ (n : Nat), n ≤ 5 → ∀ y : S1536x2560.Idx,
    (View.canon (chunksA arg4 harg4 arg5 harg5 x3 x4 l arg7 arg9 n) y : EReal)
      = if (y 1).val / 512 < n then dotAt l (weights x3 x4) y else 0
  | 0, _, y => by
    unfold chunksA
    rw [View.canon_unit_zero hz2, if_neg (Nat.not_lt_zero _)]
    unfold k0_pay2
    pointwise
  | n + 1, hn, y => by
    unfold chunksA
    by_cases hy : (y 1).val / 512 = n
    · rw [chunk_hit arg4 harg4 arg5 harg5 x3 x4 l arg9 n (by omega) _ _ y hy, View.readCov_eq_canon']
      have e : (Rect.unit (s := S1536x2560) ![0, 512 * (n % 5)] S1536x512.size (inb7 n)).toLoadRect.idx
          (ix2 (y 0) ⟨(y 1).val % 512, Nat.mod_lt _ (by decide)⟩) = y := by
        funext d
        match d with
        | ⟨0, _⟩ => apply Fin.ext; show 0 + 1 * (y 0).val = (y 0).val; omega
        | ⟨1, _⟩ => apply Fin.ext; show 512 * (n % 5) + 1 * ((y 1).val % 512) = (y 1).val; omega
      have ih := canon_chunksA n (by omega) y
      rw [if_neg (by omega)] at ih
      rw [if_pos (by omega)]
      refine Eq.trans (congrArg (fun z : EReal => z + dotAt l (weights x3 x4) y) ((congrArg (View.canon _) e).trans ih)) ?_
      exact zero_add _
    · rw [chunk_miss arg4 harg4 arg5 harg5 x3 x4 l arg9 n (by omega) _ _ y hy, canon_chunksA n (by omega) y]
      by_cases h : (y 1).val / 512 < n
      · rw [if_pos h, if_pos (by omega)]
      · rw [if_neg h, if_neg (by omega)]

end Stores

/-- The left block, entry by entry: a code times its column's scale. -/
theorem left_apply (arg1 : Memref sig .tc .vmem S1536x1024 .fp8e5m2) (harg1 : arg1.IsWhole) (arg2 : Memref sig .tc .vmem S1x1x1024 .f32) (harg2 : arg2.IsWhole)
    (arg8 : Memref sig .tc .vmem S1536x1024 .bf16) (x0 : Vec Ideal S1536x1024 .fp8e5m2) (x1 : Vec Ideal S1x1x1024 .f32) (i : Fin 1536) (k : Fin 1024) :
    (left arg1 harg1 arg2 harg2 arg8 x0 x1 (ix2 i k) : EReal) = (x0 (ix2 i k) : EReal) * (x1 (ix3 0 0 k) : EReal) := by
  unfold left
  rw [View.readCov_unit_zero _ hz2, View.readAt_eq_ld, View.readAt_eq_ld, harg1.read_unread, harg2.read_unread]
  rw [View.ld_unit_zero (S := S1536x1024) hz2, View.ld_unit_zero (S := S1x1x1024) hz3]
  unfold k0_pay3
  pointwise

/-- What one point adds to the accumulator. -/
def addend (x0 : Vec Ideal S1536x1024 .fp8e5m2) (x1 : Vec Ideal S1x1x1024 .f32) (x3 : Vec Ideal S512x2560 .i8) (x4 : Vec Ideal S1x32x2560 .i32)
    (y : S1536x2560.Idx) : EReal :=
  ∑ k : Fin 1024, ((x0 (ix2 (y 0) k) : EReal) * (x1 (ix3 0 0 k) : EReal)) * (weights x3 x4 (ix2 k (y 1)) : EReal)

theorem dotAt_left (arg1 : Memref sig .tc .vmem S1536x1024 .fp8e5m2) (harg1 : arg1.IsWhole) (arg2 : Memref sig .tc .vmem S1x1x1024 .f32) (harg2 : arg2.IsWhole)
    (arg8 : Memref sig .tc .vmem S1536x1024 .bf16) (x0 : Vec Ideal S1536x1024 .fp8e5m2) (x1 : Vec Ideal S1x1x1024 .f32)
    (x3 : Vec Ideal S512x2560 .i8) (x4 : Vec Ideal S1x32x2560 .i32) (y : S1536x2560.Idx) :
    dotAt (left arg1 harg1 arg2 harg2 arg8 x0 x1) (weights x3 x4) y = addend x0 x1 x3 x4 y :=
  Finset.sum_congr rfl fun k _ => congrArg (fun z : EReal => z * _) (left_apply arg1 harg1 arg2 harg2 arg8 x0 x1 (y 0) k)

section Runs

variable (c : Dev nD) (i : grid0.Coords) (arg1 : Memref sig .tc .vmem S1536x1024 .fp8e5m2) (harg1 : arg1.IsWhole) (arg2 : Memref sig .tc .vmem S1x1x1024 .f32) (harg2 : arg2.IsWhole) (arg3 : Memref sig .tc .vmem S1536x1 .f32) (harg3 : arg3.IsWhole) (arg4 : Memref sig .tc .vmem S512x2560 .i8) (harg4 : arg4.IsWhole) (arg5 : Memref sig .tc .vmem S1x32x2560 .i32) (harg5 : arg5.IsWhole) (arg6 : Memref sig .tc .vmem S1536x2560 .bf16) (harg6 : arg6.IsWhole) (arg7 : Memref sig .tc .vmem S1536x2560 .f32) (harg7 : arg7.IsWhole) (arg8 : Memref sig .tc .vmem S1536x1024 .bf16) (harg8 : arg8.IsWhole) (arg9 : Memref sig .tc .vmem S1024x2560 .fp8e4m3) (harg9 : arg9.IsWhole)
  (x0 : Vec Ideal S1536x1024 .fp8e5m2) (x1 : Vec Ideal S1x1x1024 .f32) (x2 : Vec Ideal S1536x1 .f32) (x3 : Vec Ideal S512x2560 .i8) (x4 : Vec Ideal S1x32x2560 .i32) (xs0 : Vec Ideal S1536x2560 .f32) (y : S1536x2560.Idx)

theorem col (y : S1536x2560.Idx) : (y 1).val / 512 < 5 := by
  have h : (y 1).val < 2560 := (y 1).isLt
  omega

/-- The first point leaves its own product, -/
theorem sout_A (hc0 : cond0_0 i) (hc1 : ¬cond0_1 i) :
    (sout0_A_0 c i arg1 harg1 arg2 harg2 arg3 harg3 arg4 harg4 arg5 harg5 arg6 harg6 arg7 harg7 arg8 harg8 arg9 harg9 hc0 hc1 x0 x1 x2 x3 x4 y : EReal) = addend x0 x1 x3 x4 y := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4), acc_A,
    canon_chunksA _ _ _ _ _ _ _ _ _ 5 (le_refl 5) y, if_pos (col y), dotAt_left]

/-- a middle point adds its own, -/
theorem sout_B (hc0 : ¬cond0_0 i) (hc1 : ¬cond0_1 i) :
    (sout0_B_0 c i arg1 harg1 arg2 harg2 arg3 harg3 arg4 harg4 arg5 harg5 arg6 harg6 arg7 harg7 arg8 harg8 arg9 harg9 hc0 hc1 x0 x1 x2 x3 x4 xs0 y : EReal) = (xs0 y : EReal) + addend x0 x1 x3 x4 y := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0), acc_B,
    canon_chunks _ _ _ _ _ _ _ _ _ _ _ 5 (le_refl 5) y (col y), dotAt_left]

/-- and the last point adds its own and scales the rows. -/
theorem out_C_value (hc0 : ¬cond0_0 i) (hc1 : cond0_1 i) :
    (out0_C_5 c i arg1 harg1 arg2 harg2 arg3 harg3 arg4 harg4 arg5 harg5 arg6 harg6 arg7 harg7 arg8 harg8 arg9 harg9 hc0 hc1 x0 x1 x2 x3 x4 xs0 y : EReal) = ((xs0 y : EReal) + addend x0 x1 x3 x4 y) * (x2 (ix2 (y 0) 0) : EReal) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0), out_C, View.canon_unit_zero hz2, View.readAt_eq_ld, harg3.read_unread,
    View.ld_unit_zero (S := S1536x1) hz2, View.readCov_eq_canon']
  have e := canon_chunks arg4 harg4 arg5 harg5 x3 x4 (left arg1 harg1 arg2 harg2 arg8 x0 x1) arg7 harg7 arg9 xs0 5 (le_refl 5) y (col y)
  rw [dotAt_left] at e
  rw [← e]
  have e2 : (fun j => View.canon (chunks arg4 harg4 arg5 harg5 x3 x4 (left arg1 harg1 arg2 harg2 arg8 x0 x1) arg7 harg7 arg9 xs0 5)
      ((Rect.unit (s := S1536x2560) ![0, 0] S1536x2560.size inb_S1536x2560_S1536x2560_0_0).toLoadRect.idx j))
      = View.canon (chunks arg4 harg4 arg5 harg5 x3 x4 (left arg1 harg1 arg2 harg2 arg8 x0 x1) arg7 harg7 arg9 xs0 5) :=
    View.ld_unit_zero (S := S1536x2560) hz2 inb_S1536x2560_S1536x2560_0_0 _
  have e3 := congrArg (fun z => (k0_pay1 z x2 y : EReal)) e2
  refine Eq.trans e3 ?_
  generalize View.canon (chunks arg4 harg4 arg5 harg5 x3 x4 (left arg1 harg1 arg2 harg2 arg8 x0 x1) arg7 harg7 arg9 xs0 5) = X
  unfold k0_pay1
  pointwise

end Runs

end Cert.KernelIdeal.Dgrad

end
-- ==== Proof.Reads.lean ====
/-
  The kernel's blocks, read: what window `w` holds at point `t` is the argument at its place (`read0` … `read4`).
-/
module

public import proofs.«01_k».proof.Proof.Point
public import proofs.«01_k».proof.Proof.Gen.KernelIdeal.Value
public import Idealize.ShloMosaic.Lib.Pipeline.ValueKit

@[expose] public section

set_option maxRecDepth 16384

noncomputable section

namespace Cert.KernelIdeal.Dgrad

open Cert.KernelIdeal Cert.KernelIdeal.Gen Idealize.ShloMosaic Idealize.ShloMosaic.TcCoe Idealize.SL.Sem
open Cert.Sparse

variable (m : (ℓ : Loc nD τ sig) → Buf (Elt Ideal) ℓ)

theorem idx0 : ∀ t : Fin cfg0.N, win0_0.index t = ![0, t.val] := (by decide +kernel : ∀ t : Fin grid0.N, win0_0.index t = ![0, t.val])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0, 0] := (by decide +kernel : ∀ t : Fin grid0.N, win0_4.index t = ![t.val, 0, 0])

theorem lt16 (t : Fin cfg0.N) : t.val < 16 := lt_of_lt_of_eq t.isLt N_0

theorem read0 (c : Dev nD) (t : Fin cfg0.N) (i : Fin 1536) (k : Fin 1024) :
    (iblk m c 0 t : Vec Ideal S1536x1024 .fp8e5m2) (ix2 i k)
      = m ((c : Thread nD τ).loc main_arg0) (ix3 ⟨i.val / 768, by omega⟩ ⟨i.val % 768, by omega⟩ ⟨1024 * t.val + k.val, by have := lt16 t; omega⟩) := by
  have := lt16 t
  blk_ext! [iblk, V, idx0 t]

theorem read1 (c : Dev nD) (t : Fin cfg0.N) (k : Fin 1024) :
    (iblk m c 1 t : Vec Ideal S1x1x1024 .f32) (ix3 0 0 k)
      = m ((c : Thread nD τ).loc main_arg4) (ix1 ⟨1024 * t.val + k.val, by have := lt16 t; omega⟩) := by
  have := lt16 t
  blk_ext! [iblk, V, idx1 t]

theorem read2 (c : Dev nD) (t : Fin cfg0.N) (i : Fin 1536) :
    (iblk m c 2 t : Vec Ideal S1536x1 .f32) (ix2 i 0)
      = m ((c : Thread nD τ).loc main_arg1) (ix2 ⟨i.val / 768, by omega⟩ ⟨i.val % 768, by omega⟩) := by
  have := lt16 t
  blk_ext! [iblk, V, idx2 t]

theorem read3 (c : Dev nD) (t : Fin cfg0.N) (i : Fin 512) (j : Fin 2560) :
    (iblk m c 3 t : Vec Ideal S512x2560 .i8) (ix2 i j)
      = m ((c : Thread nD τ).loc main_arg2) (ix2 ⟨512 * t.val + i.val, by have := lt16 t; omega⟩ j) := by
  have := lt16 t
  blk_ext! [iblk, V, idx3 t]

theorem read4 (c : Dev nD) (t : Fin cfg0.N) (i : Fin 32) (j : Fin 2560) :
    (iblk m c 4 t : Vec Ideal S1x32x2560 .i32) (ix3 0 i j)
      = m ((c : Thread nD τ).loc main_arg3) (ix2 ⟨32 * t.val + i.val, by have := lt16 t; omega⟩ j) := by
  have := lt16 t
  blk_ext! [iblk, V, idx4 t]

end Cert.KernelIdeal.Dgrad

end
-- ==== Proof.Spec.lean ====
/-
  The product that the kernel and the reference both compute, stated on plain index functions: a result row and column
  as one sum over the 16384 dense rows (`product`), and an expanded weight as the byte that the group's two codes leave at
  its row (`full`), which with different positions is the sum of the two masked codes (`ofBits_joined`).
-/
module

public import proofs.«01_k».proof.Proof.Bits
public import Idealize.ShloMosaic.PureOps.Ideal

@[expose] public section

noncomputable section

namespace Cert.Sparse

open Idealize.ShloMosaic

/-- Dense row `r`, column `j` of the weights: row `r % 4` of group `r / 4`, whose codes are rows `2 (r / 4)` and
    `2 (r / 4) + 1` and whose positions are 2-bit fields of word row `r / 32`. -/
def full (vals : Fin 8192 → Fin 2560 → BitVec 8) (words : Fin 512 → Fin 2560 → BitVec 32) (r : Fin 16384) (j : Fin 2560) : EReal :=
  (FloatOps.ofBits .fp8e4m3
    (joined (vals ⟨2 * (r.val / 4), by omega⟩ j) (vals ⟨2 * (r.val / 4) + 1, by omega⟩ j)
      (posAt (words ⟨r.val / 32, by omega⟩ j) (2 * (r.val / 4 % 8)))
      (posAt (words ⟨r.val / 32, by omega⟩ j) (2 * (r.val / 4 % 8) + 1)) (r.val % 4)) : Ideal .fp8e4m3)

/-- One term of a result: the entry of the gradient, the column's scale, the weight. -/
def term (dy : Fin 1536 → Fin 16384 → EReal) (ws : Fin 16384 → EReal) (vals : Fin 8192 → Fin 2560 → BitVec 8)
    (words : Fin 512 → Fin 2560 → BitVec 32) (i : Fin 1536) (j : Fin 2560) (r : Fin 16384) : EReal :=
  (dy i r * ws r) * full vals words r j

/-- A result: the sum of all the terms, times the row's scale. -/
def product (dy : Fin 1536 → Fin 16384 → EReal) (ds : Fin 1536 → EReal) (ws : Fin 16384 → EReal)
    (vals : Fin 8192 → Fin 2560 → BitVec 8) (words : Fin 512 → Fin 2560 → BitVec 32) (i : Fin 1536) (j : Fin 2560) : EReal :=
  (∑ r : Fin 16384, term dy ws vals words i j r) * ds i

/-- A function of the dense rows at a natural number, zero past the last row. -/
def at' (f : Fin 16384 → EReal) (r : Nat) : EReal := if h : r < 16384 then f ⟨r, h⟩ else 0

theorem at'_eq (f : Fin 16384 → EReal) (r : Nat) (h : r < 16384) : at' f r = f ⟨r, h⟩ := dif_pos h

/-- The sum over the rows below `1024 (t + 1)` is the sum over the rows below `1024 t` plus the sum over block `t`. -/
theorem sum_block (f : Fin 16384 → EReal) (t : Nat) (ht : t < 16) :
    ∑ r ∈ Finset.range (1024 * (t + 1)), at' f r
      = ∑ r ∈ Finset.range (1024 * t), at' f r + ∑ k : Fin 1024, f ⟨1024 * t + k.val, by omega⟩ := by
  rw [show 1024 * (t + 1) = 1024 * t + 1024 by ring, Finset.sum_range_add, Finset.sum_range (n := 1024)]
  exact congrArg (fun z : EReal => _ + z) (Finset.sum_congr rfl fun k _ => at'_eq f _ _)

theorem sum_all (f : Fin 16384 → EReal) : ∑ r ∈ Finset.range 16384, at' f r = ∑ r : Fin 16384, f r := by
  rw [Finset.sum_range]
  exact Finset.sum_congr rfl fun k _ => at'_eq f _ k.isLt

/-- With different positions the byte's value is the sum of the two codes' values, each where its position is the row's. -/
theorem ofBits_joined (b0 b1 : BitVec 8) (p0 p1 g : Nat) (h : p0 ≠ p1) :
    ((FloatOps.ofBits .fp8e4m3 (joined b0 b1 p0 p1 g) : Ideal .fp8e4m3) : EReal)
      = (if p0 = g then ((FloatOps.ofBits .fp8e4m3 b0 : Ideal .fp8e4m3) : EReal) else 0)
        + (if p1 = g then ((FloatOps.ofBits .fp8e4m3 b1 : Ideal .fp8e4m3) : EReal) else 0) := by
  unfold joined
  have z : ((FloatOps.ofBits .fp8e4m3 (0 : BitVec 8) : Ideal .fp8e4m3) : EReal) = 0 := Ideal.ofBits_zero .fp8e4m3
  by_cases h0 : p0 = g
  · have h1 : p1 ≠ g := fun e => h (h0.trans e.symm)
    rw [if_pos h0, if_neg h1, if_pos h0, if_neg h1, add_zero]
    exact congrArg (fun b : BitVec 8 => ((FloatOps.ofBits .fp8e4m3 b : Ideal .fp8e4m3) : EReal)) (BitVec.or_zero)
  · by_cases h1 : p1 = g
    · rw [if_neg h0, if_pos h1, if_neg h0, if_pos h1, zero_add]
      exact congrArg (fun b : BitVec 8 => ((FloatOps.ofBits .fp8e4m3 b : Ideal .fp8e4m3) : EReal)) (BitVec.zero_or)
    · rw [if_neg h0, if_neg h1, if_neg h0, if_neg h1, add_zero]
      exact (congrArg (fun b : BitVec 8 => ((FloatOps.ofBits .fp8e4m3 b : Ideal .fp8e4m3) : EReal)) (BitVec.or_zero)).trans z

end Cert.Sparse

end
-- ==== Proof.Fold.lean ====
/-
  The kernel's result: after point `n` the accumulator holds the sum over the first `1024 (n + 1)` dense rows
  (`acc_sum`), and the last point writes the whole sum, scaled (`kernel_value`).
-/
module

public import proofs.«01_k».proof.Proof.Reads
public import proofs.«01_k».proof.Proof.Spec

@[expose] public section

set_option maxRecDepth 16384

noncomputable section

namespace Cert.KernelIdeal.Dgrad

open Cert.KernelIdeal Cert.KernelIdeal.Gen Idealize.ShloMosaic Idealize.ShloMosaic.TcCoe Idealize.SL.Sem
open Cert.Sparse

variable (m : (ℓ : Loc nD τ sig) → Buf (Elt Ideal) ℓ) (c : Dev nD)

/-- The arguments, as functions of plain indices: the gradient and its scale over the rows of both batches, -/
def dyK (i : Fin 1536) (r : Fin 16384) : EReal :=
  (m ((c : Thread nD τ).loc main_arg0) (ix3 ⟨i.val / 768, by omega⟩ ⟨i.val % 768, by omega⟩ r) : Ideal .fp8e5m2)
def dsK (i : Fin 1536) : EReal :=
  (m ((c : Thread nD τ).loc main_arg1) (ix2 ⟨i.val / 768, by omega⟩ ⟨i.val % 768, by omega⟩) : Ideal .f32)
/-- the codes, the words of positions, the weights' scale. -/
def valsK (r : Fin 8192) (j : Fin 2560) : BitVec 8 := m ((c : Thread nD τ).loc main_arg2) (ix2 r j)
def wordsK (r : Fin 512) (j : Fin 2560) : BitVec 32 := m ((c : Thread nD τ).loc main_arg3) (ix2 r j)
def wsK (r : Fin 16384) : EReal := (m ((c : Thread nD τ).loc main_arg4) (ix1 r) : Ideal .f32)

/-- The terms of the result at row `i`, column `j`. -/
abbrev termK (i : Fin 1536) (j : Fin 2560) : Fin 16384 → EReal := term (dyK m c) (wsK m c) (valsK m c) (wordsK m c) i j

/-- Row `k` of point `t`'s expanded block is dense row `1024 t + k`. -/
theorem weights_read (t : Fin cfg0.N) (k : Fin 1024) (j : Fin 2560) :
    (weights (iblk m c 3 t : Vec Ideal S512x2560 .i8) (iblk m c 4 t : Vec Ideal S1x32x2560 .i32) (ix2 k j) : EReal)
      = full (valsK m c) (wordsK m c) ⟨1024 * t.val + k.val, by have := lt16 t; omega⟩ j := by
  have ht := lt16 t
  have e0 := read3 m c t ⟨2 * (k.val / 4), by omega⟩ j
  have e1 := read3 m c t ⟨2 * (k.val / 4) + 1, by omega⟩ j
  have e2 := read4 m c t ⟨k.val / 32, by omega⟩ j
  unfold weights full
  have a0 : (iblk m c 3 t : Vec Ideal S512x2560 .i8) (ix2 ⟨2 * (k.val / 4), by omega⟩ j)
      = valsK m c ⟨2 * ((1024 * t.val + k.val) / 4), by omega⟩ j :=
    e0.trans (congrArg (fun r => valsK m c r j) (Fin.ext (show 512 * t.val + 2 * (k.val / 4) = 2 * ((1024 * t.val + k.val) / 4) by omega)))
  have a1 : (iblk m c 3 t : Vec Ideal S512x2560 .i8) (ix2 ⟨2 * (k.val / 4) + 1, by omega⟩ j)
      = valsK m c ⟨2 * ((1024 * t.val + k.val) / 4) + 1, by omega⟩ j :=
    e1.trans (congrArg (fun r => valsK m c r j) (Fin.ext (show 512 * t.val + (2 * (k.val / 4) + 1) = 2 * ((1024 * t.val + k.val) / 4) + 1 by omega)))
  have a2 : (iblk m c 4 t : Vec Ideal S1x32x2560 .i32) (ix3 0 ⟨k.val / 32, by omega⟩ j)
      = wordsK m c ⟨(1024 * t.val + k.val) / 32, by omega⟩ j :=
    e2.trans (congrArg (fun r => wordsK m c r j) (Fin.ext (show 32 * t.val + k.val / 32 = (1024 * t.val + k.val) / 32 by omega)))
  have n1 : (1024 * t.val + k.val) / 4 % 8 = k.val / 4 % 8 := by omega
  have n2 : (1024 * t.val + k.val) % 4 = k.val % 4 := by omega
  show (FloatOps.ofBits .fp8e4m3 (joined ((iblk m c 3 t : Vec Ideal S512x2560 .i8) (ix2 ⟨2 * (k.val / 4), by omega⟩ j))
      ((iblk m c 3 t : Vec Ideal S512x2560 .i8) (ix2 ⟨2 * (k.val / 4) + 1, by omega⟩ j))
      (posAt ((iblk m c 4 t : Vec Ideal S1x32x2560 .i32) (ix3 0 ⟨k.val / 32, by omega⟩ j)) (2 * (k.val / 4 % 8)))
      (posAt ((iblk m c 4 t : Vec Ideal S1x32x2560 .i32) (ix3 0 ⟨k.val / 32, by omega⟩ j)) (2 * (k.val / 4 % 8) + 1)) (k.val % 4)) : Ideal .fp8e4m3) = _
  rw [a0, a1, a2]
  show _ = (FloatOps.ofBits .fp8e4m3 (joined (valsK m c ⟨2 * ((1024 * t.val + k.val) / 4), _⟩ j) (valsK m c ⟨2 * ((1024 * t.val + k.val) / 4) + 1, _⟩ j)
      (posAt (wordsK m c ⟨(1024 * t.val + k.val) / 32, _⟩ j) (2 * ((1024 * t.val + k.val) / 4 % 8)))
      (posAt (wordsK m c ⟨(1024 * t.val + k.val) / 32, _⟩ j) (2 * ((1024 * t.val + k.val) / 4 % 8) + 1)) ((1024 * t.val + k.val) % 4)) : Ideal .fp8e4m3)
  rw [n1, n2]

/-- A block's product from its factors, entry by entry. -/
theorem addend_of (x0 : Vec Ideal S1536x1024 .fp8e5m2) (x1 : Vec Ideal S1x1x1024 .f32) (x3 : Vec Ideal S512x2560 .i8) (x4 : Vec Ideal S1x32x2560 .i32)
    (i : Fin 1536) (j : Fin 2560) (a b w : Fin 1024 → EReal) (ha : ∀ k, (x0 (ix2 i k) : EReal) = a k) (hb : ∀ k, (x1 (ix3 0 0 k) : EReal) = b k)
    (hw : ∀ k, (weights x3 x4 (ix2 k j) : EReal) = w k) : addend x0 x1 x3 x4 (ix2 i j) = ∑ k : Fin 1024, (a k * b k) * w k := by
  refine Finset.sum_congr rfl fun k _ => ?_
  rw [← ha k, ← hb k, ← hw k]
  rfl

/-- A point's product is the sum of the terms of its block of rows. -/
theorem addend_read (t : Fin cfg0.N) (i : Fin 1536) (j : Fin 2560) :
    addend (iblk m c 0 t) (iblk m c 1 t) (iblk m c 3 t) (iblk m c 4 t) (ix2 i j)
      = ∑ k : Fin 1024, termK m c i j ⟨1024 * t.val + k.val, by have := lt16 t; omega⟩ :=
  addend_of (iblk m c 0 t) (iblk m c 1 t) (iblk m c 3 t) (iblk m c 4 t) i j
    (fun k => dyK m c i ⟨1024 * t.val + k.val, by have := lt16 t; omega⟩) (fun k => wsK m c ⟨1024 * t.val + k.val, by have := lt16 t; omega⟩)
    (fun k => full (valsK m c) (wordsK m c) ⟨1024 * t.val + k.val, by have := lt16 t; omega⟩ j)
    (fun k => read0 m c t i k) (fun k => read1 m c t k) (fun k => weights_read m c t k j)

/-- What the accumulator holds after point `n`, at an entry. -/
def accK (n : Nat) (h : n < cfg0.N) (y : S1536x2560.Idx) : EReal := ((outsAt0 m c n h).2 : FVec Ideal S1536x2560 .f32) y

/-- The first point leaves its product, -/
theorem acc_first (t : Fin cfg0.N) (h0 : t.val % 16 = 0) (h1 : ¬t.val % 16 = 15) (y : S1536x2560.Idx) :
    accK m c t.val t.isLt y = addend (iblk m c 0 t) (iblk m c 1 t) (iblk m c 3 t) (iblk m c 4 t) y := by
  unfold accK
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) y ((hcond0_0 t).mpr h0) (fun h => h1 ((hcond0_1 t).mp h))

/-- a middle point adds its product to what the point before left, -/
theorem acc_next (t : Fin cfg0.N) (h0 : ¬t.val % 16 = 0) (h1 : ¬t.val % 16 = 15) (y : S1536x2560.Idx) :
    accK m c t.val t.isLt y = accK m c (t.val - 1) (Nat.lt_of_le_of_lt (Nat.sub_le _ _) t.isLt) y
      + addend (iblk m c 0 t) (iblk m c 1 t) (iblk m c 3 t) (iblk m c 4 t) y := by
  unfold accK
  rw [outsAt0_B m c t h0 h1]
  dsimp only
  exact sout_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 y (fun h => h0 ((hcond0_0 t).mp h)) (fun h => h1 ((hcond0_1 t).mp h))

/-- and the last point writes that sum, scaled. -/
theorem out_last (t : Fin cfg0.N) (h0 : ¬t.val % 16 = 0) (h1 : t.val % 16 = 15) (i : Fin 1536) (j : Fin 2560) :
    (((outsAt0 m c t.val t.isLt).1 : FVec Ideal S1536x2560 .bf16) (ix2 i j) : EReal)
      = (accK m c (t.val - 1) (Nat.lt_of_le_of_lt (Nat.sub_le _ _) t.isLt) (ix2 i j)
        + addend (iblk m c 0 t) (iblk m c 1 t) (iblk m c 3 t) (iblk m c 4 t) (ix2 i j)) * dsK m c i := by
  unfold accK dsK
  rw [outsAt0_C m c t h0 h1, ← read2 m c t i]
  dsimp only
  exact out_C_value c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t) (outsAt0 m c (t.val - 1) (Nat.lt_of_le_of_lt (Nat.sub_le _ _) t.isLt)).2 (ix2 i j) (fun h => h0 ((hcond0_0 t).mp h)) ((hcond0_1 t).mpr h1)

/-- THE ACCUMULATOR after point `n`, before the last: the sum over the first `1024 (n + 1)` dense rows. -/
theorem acc_sum (i : Fin 1536) (j : Fin 2560) : ∀ (n : Nat) (h : n < cfg0.N), n < 15 →
    accK m c n h (ix2 i j) = ∑ r ∈ Finset.range (1024 * (n + 1)), at' (termK m c i j) r
  | 0, h, _ => by
    have es := sum_block (termK m c i j) 0 (by omega)
    have ez : ∑ r ∈ Finset.range (1024 * 0), at' (termK m c i j) r = 0 := rfl
    rw [es, ez, zero_add, ← addend_read m c ⟨0, h⟩ i j]
    exact acc_first m c ⟨0, h⟩ (Nat.zero_mod _) (fun h' => by dsimp only at h'; omega) (ix2 i j)
  | n + 1, h, hn => by
    rw [sum_block (termK m c i j) (n + 1) (by omega), ← acc_sum i j n (Nat.lt_of_succ_lt h) (by omega), ← addend_read m c ⟨n + 1, h⟩ i j]
    exact acc_next m c ⟨n + 1, h⟩ (by dsimp only; omega) (by dsimp only; omega) (ix2 i j)

/-- THE KERNEL'S RESULT at row `i`, column `j`. -/
theorem kernel_value (i : Fin 1536) (j : Fin 2560) :
    ((Value.G5 m c : FVec Ideal S1536x2560 .bf16) (ix2 i j) : EReal) = product (dyK m c) (dsK m c) (wsK m c) (valsK m c) (wordsK m c) i j := by
  have hN : 15 < cfg0.N := lt_of_lt_of_eq (by decide) N_0.symm
  rw [Value.G5_last, ← Value.outsAt0_sweep m c 15 hN]
  refine (out_last m c ⟨15, hN⟩ (by dsimp only; omega) rfl i j).trans ?_
  have es := sum_block (termK m c i j) 15 (by omega)
  have ea : accK m c 14 (Nat.lt_of_succ_lt hN) (ix2 i j) = ∑ r ∈ Finset.range (1024 * 15), at' (termK m c i j) r :=
    acc_sum m c i j 14 (Nat.lt_of_succ_lt hN) (by omega)
  rw [show 1024 * (15 + 1) = 16384 from rfl, sum_all] at es
  unfold product
  rw [es, ← ea, ← addend_read m c ⟨15, hN⟩ i j]
  rfl

end Cert.KernelIdeal.Dgrad

end
-- ==== Proof.Masked.lean ====
/-
  The reference's body over the extended reals, entry by entry: its positions (`pos_apply`), its dense weights as two
  masked codes added (`dense_apply`), and its result as one sum over the dense rows, scaled (`pay_apply`).
-/
module

public import proofs.«01_k».proof.Proof.Spec
public import proofs.«01_k».proof.Proof.Gen.ReferenceIdeal.Value
public import Idealize.ShloMosaic.Lib.Pointwise

@[expose] public section

set_option maxRecDepth 16384

noncomputable section

namespace Cert.ReferenceIdeal.Dgrad

open Cert.ReferenceIdeal Cert.ReferenceIdeal.Gen Idealize.ShloMosaic Idealize.ShloMosaic.TcCoe Idealize.SL.Sem
open Cert.Sparse

/-- The positions, one a row of codes. -/
def pos (v0 : IVec S512x2560 32) : IVec S8192x2560 32 :=
  shapeCast S8192x2560 (andi (shrsi (broadcastTo S512x16x2560 (shapeCast S512x1x2560 v0 shapeCasts_S512x2560_S512x1x2560) broadcasts_S512x1x2560_S512x16x2560)
    (broadcastTo S512x16x2560 (muli (broadcast S1x16x1 2#32) (iota .tc S1x16x1 32 [1] iota_S1x16x1_d1_w32)) broadcasts_S1x16x1_S512x16x2560))
    (broadcast S512x16x2560 3#32)) shapeCasts_S512x16x2560_S8192x2560

theorem two_mul (b : Fin 16) : IntOp.muli 2#32 (BitVec.ofNat 32 b.val) = BitVec.ofNat 32 (2 * b.val) := by
  revert b; decide

/-- Row `p` of the positions is field `p % 16` of word row `p / 16`. -/
theorem pos_apply (v0 : IVec S512x2560 32) (p : Fin 8192) (j : Fin 2560) :
    pos v0 (ix2 p j) = BitVec.ofNat 32 (posAt (v0 (ix2 ⟨p.val / 16, by omega⟩ j)) (p.val % 16)) := by
  have e : pos v0 (ix2 p j) = IntOp.andi (IntOp.shrsi .vector (v0 (ix2 ⟨p.val / 16, by omega⟩ j)) (IntOp.muli 2#32 (BitVec.ofNat 32 (p.val % 16)))) 3#32 := by
    unfold pos
    pointwise
  rw [e, two_mul ⟨p.val % 16, by omega⟩]
  exact and3_shift _ _ (by omega)

/-- The dense weights: of each group's two codes those whose position is the row's, added. -/
def dense (P : IVec S8192x2560 32) (v12 : IVec S8192x2560 8) : FVec Ideal S16384x2560 .bf16 :=
  have v11 : IVec S4096x2x2560 32 := shapeCast S4096x2x2560 P shapeCasts_S8192x2560_S4096x2x2560
  have v13 : FVec Ideal S8192x2560 .fp8e4m3 := bitcastToFloat .fp8e4m3 v12
  have v14 : FVec Ideal S8192x2560 .bf16 := extf .bf16 v13 bitsLt_fp8e4m3_bf16
  have v15 : FVec Ideal S4096x2x2560 .bf16 := shapeCast S4096x2x2560 v14 shapeCasts_S8192x2560_S4096x2x2560
  have v16 : IVec S4096x2x1x2560 32 := shapeCast S4096x2x1x2560 v11 shapeCasts_S4096x2x2560_S4096x2x1x2560
  have v17 : IVec S1x1x4x1 32 := iota .tc S1x1x4x1 32 [2] iota_S1x1x4x1_d2_w32
  have v18 : IVec S4096x2x4x2560 32 := broadcastTo S4096x2x4x2560 v16 broadcasts_S4096x2x1x2560_S4096x2x4x2560
  have v19 : IVec S4096x2x4x2560 32 := broadcastTo S4096x2x4x2560 v17 broadcasts_S1x1x4x1_S4096x2x4x2560
  have v20 : IVec S4096x2x4x2560 1 := cmpi .eq v18 v19
  have v21 : FVec Ideal S4096x2x1x2560 .bf16 := shapeCast S4096x2x1x2560 v15 shapeCasts_S4096x2x2560_S4096x2x1x2560
  have cst : Ideal .bf16 := Scalar.ofBits .bf16 0x0000#16
  have v22 : FVec Ideal S4096x2x1x2560 .bf16 := shapeCast S4096x2x1x2560 v21 shapeCasts_S4096x2x1x2560_S4096x2x1x2560
  have v23 : FVec Ideal S4096x2x4x2560 .bf16 := broadcastTo S4096x2x4x2560 v22 broadcasts_S4096x2x1x2560_S4096x2x4x2560
  have v24 : FVec Ideal S4096x2x4x2560 .bf16 := broadcast S4096x2x4x2560 cst
  have v25 : FVec Ideal S4096x2x4x2560 .bf16 := select v20 v23 v24
  have v26 : FVec Ideal S4096x2x4x2560 .f32 := extf .f32 v25 bitsLt_bf16_f32
  have v27 : FVec Ideal S4096x4x2560 .f32 := multiReduction .add [1] S4096x4x2560 v26 0x00000000#32 reduces_S4096x2x4x2560_S4096x4x2560 (.inl rfl) rfl
  have v28 : FVec Ideal S4096x4x2560 .bf16 := truncf .bf16 v27 bitsLt_bf16_f32
  shapeCast S16384x2560 v28 shapeCasts_S4096x4x2560_S16384x2560

/-- The body's result is a product with the dense weights, each times its row's scale. -/
theorem pay_eq (v0 : Vec Ideal S512x2560 .i32) (v12 : Vec Ideal S8192x2560 .i8) (v30 : Vec Ideal S16384 .f32) (v35 : Vec Ideal S1536x16384 .fp8e5m2) (v39 : Vec Ideal S1536x1 .f32) :
    k0_pay1 v0 v12 v30 v35 v39 = truncf .bf16 (mulf (matmul dot_S1536x16384_S16384x2560_S1536x2560_1_0_0_1_n_n none
      (extf .bf16 (shapeCast S1536x16384 (v35 : FVec Ideal S1536x16384 .fp8e5m2) shapeCasts_S1536x16384_S1536x16384) bitsLt_fp8e5m2_bf16)
      (mulf (dense (pos v0) v12) (broadcastTo S16384x2560 (shapeCast S16384x1 (truncf .bf16 (v30 : FVec Ideal S16384 .f32) bitsLt_bf16_f32) shapeCasts_S16384_S16384x1) broadcasts_S16384x1_S16384x2560))
      (constant S1536x2560 .f32 0x00000000#32))
      (broadcastTo S1536x2560 (shapeCast S1536x1 (v39 : FVec Ideal S1536x1 .f32) shapeCasts_S1536x1_S1536x1) broadcasts_S1536x1_S1536x2560)) bitsLt_bf16_f32 := rfl

theorem prod_apply (D : FVec Ideal S16384x2560 .bf16) (v30 : FVec Ideal S16384 .f32) (v35 : FVec Ideal S1536x16384 .fp8e5m2) (v39 : FVec Ideal S1536x1 .f32)
    (i : Fin 1536) (j : Fin 2560) :
    ((truncf .bf16 (mulf (matmul dot_S1536x16384_S16384x2560_S1536x2560_1_0_0_1_n_n none
      (extf .bf16 (shapeCast S1536x16384 v35 shapeCasts_S1536x16384_S1536x16384) bitsLt_fp8e5m2_bf16)
      (mulf D (broadcastTo S16384x2560 (shapeCast S16384x1 (truncf .bf16 v30 bitsLt_bf16_f32) shapeCasts_S16384_S16384x1) broadcasts_S16384x1_S16384x2560))
      (constant S1536x2560 .f32 0x00000000#32))
      (broadcastTo S1536x2560 (shapeCast S1536x1 v39 shapeCasts_S1536x1_S1536x1) broadcasts_S1536x1_S1536x2560)) bitsLt_bf16_f32 : FVec Ideal S1536x2560 .bf16) (ix2 i j) : EReal)
      = (∑ r : Fin 16384, (v35 (ix2 i r) : EReal) * ((D (ix2 r j) : EReal) * (v30 (ix1 r) : EReal))) * (v39 (ix2 i 0) : EReal) := by
  pointwise

/-- A masked code, as the body computes it. -/
theorem masked (x : EReal) (p g : Nat) (hp : p < 4) (hg : g < 4) :
    (if IntOp.cmpi .eq (BitVec.ofNat 32 p) (BitVec.ofNat 32 g) = 1#1 then x else 0) = if p = g then x else 0 := by
  have h : IntOp.cmpi .eq (BitVec.ofNat 32 p) (BitVec.ofNat 32 g) = 1#1 ↔ p = g := by
    interval_cases p <;> interval_cases g <;> decide
  by_cases e : p = g
  · rw [if_pos e, if_pos (h.mpr e)]
  · rw [if_neg e, if_neg (fun k => e (h.mp k))]

theorem dense_raw (P : IVec S8192x2560 32) (v12 : IVec S8192x2560 8) (r : Fin 16384) (j : Fin 2560) :
    (dense P v12 (ix2 r j) : EReal) = ∑ a : Fin 2, (if IntOp.cmpi .eq (P (ix2 ⟨r.val / 4 * 2 + a.val, by omega⟩ j)) (BitVec.ofNat 32 (r.val % 4)) = 1#1
      then ((FloatOps.ofBits .fp8e4m3 (v12 (ix2 ⟨r.val / 4 * 2 + a.val, by omega⟩ j)) : Ideal .fp8e4m3) : EReal) else 0) := by
  unfold dense
  pointwise
  exact Finset.sum_congr rfl fun x _ => rfl

/-- A 2-bit field is below four. -/
theorem posAt_lt (w : BitVec 32) (j : Nat) : posAt w j < 4 := (w.extractLsb' (2 * j) 2).isLt

/-- Row `r` of the dense weights is the sum of the group's two codes, each where its position is `r % 4`. -/
theorem dense_apply (v0 : IVec S512x2560 32) (v12 : IVec S8192x2560 8) (r : Fin 16384) (j : Fin 2560) :
    (dense (pos v0) v12 (ix2 r j) : EReal)
      = (if posAt (v0 (ix2 ⟨r.val / 32, by omega⟩ j)) (2 * (r.val / 4 % 8)) = r.val % 4
          then ((FloatOps.ofBits .fp8e4m3 (v12 (ix2 ⟨2 * (r.val / 4), by omega⟩ j)) : Ideal .fp8e4m3) : EReal) else 0)
        + (if posAt (v0 (ix2 ⟨r.val / 32, by omega⟩ j)) (2 * (r.val / 4 % 8) + 1) = r.val % 4
          then ((FloatOps.ofBits .fp8e4m3 (v12 (ix2 ⟨2 * (r.val / 4) + 1, by omega⟩ j)) : Ideal .fp8e4m3) : EReal) else 0) := by
  have hr := r.isLt
  rw [dense_raw, Fin.sum_univ_two]
  simp only [pos_apply]
  rw [masked _ _ _ (posAt_lt _ _) (by omega), masked _ _ _ (posAt_lt _ _) (by omega)]
  have e0 : (⟨r.val / 4 * 2 + (0 : Fin 2).val, by simp; omega⟩ : Fin 8192) = ⟨2 * (r.val / 4), by omega⟩ := Fin.ext (by simp; omega)
  have e1 : (⟨r.val / 4 * 2 + (1 : Fin 2).val, by simp; omega⟩ : Fin 8192) = ⟨2 * (r.val / 4) + 1, by omega⟩ := Fin.ext (by simp; omega)
  have w0 : (⟨(r.val / 4 * 2 + (0 : Fin 2).val) / 16, by simp; omega⟩ : Fin 512) = ⟨r.val / 32, by omega⟩ := Fin.ext (by simp; omega)
  have w1 : (⟨(r.val / 4 * 2 + (1 : Fin 2).val) / 16, by simp; omega⟩ : Fin 512) = ⟨r.val / 32, by omega⟩ := Fin.ext (by simp; omega)
  have n0 : (r.val / 4 * 2 + (0 : Fin 2).val) % 16 = 2 * (r.val / 4 % 8) := by simp; omega
  have n1 : (r.val / 4 * 2 + (1 : Fin 2).val) % 16 = 2 * (r.val / 4 % 8) + 1 := by simp; omega
  rw [n0, n1, w0, w1, e0, e1]

/-- THE BODY'S RESULT at row `i`, column `j`. -/
theorem pay_apply (v0 : Vec Ideal S512x2560 .i32) (v12 : Vec Ideal S8192x2560 .i8) (v30 : Vec Ideal S16384 .f32) (v35 : Vec Ideal S1536x16384 .fp8e5m2) (v39 : Vec Ideal S1536x1 .f32)
    (i : Fin 1536) (j : Fin 2560) :
    (k0_pay1 v0 v12 v30 v35 v39 (ix2 i j) : EReal)
      = (∑ r : Fin 16384, (v35 (ix2 i r) : EReal) * ((dense (pos v0) v12 (ix2 r j) : EReal) * (v30 (ix1 r) : EReal))) * (v39 (ix2 i 0) : EReal) :=
  (congrFun (pay_eq v0 v12 v30 v35 v39) (ix2 i j)).trans (prod_apply (dense (pos v0) v12) v30 v35 v39 i j)

end Cert.ReferenceIdeal.Dgrad

end
-- ==== Proof.RefValue.lean ====
/-
  The reference's result: its one point's blocks are the arguments (`rread0` …), so its array after the run holds the
  body's sum at each entry (`reference_value`).
-/
module

public import proofs.«01_k».proof.Proof.Masked
public import Idealize.ShloMosaic.Lib.Pipeline.ValueKit

@[expose] public section

set_option maxRecDepth 16384

noncomputable section

namespace Cert.ReferenceIdeal.Dgrad

open Cert.ReferenceIdeal Cert.ReferenceIdeal.Gen Idealize.ShloMosaic Idealize.ShloMosaic.TcCoe Idealize.SL.Sem
open Cert.Sparse

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0] := (by decide +kernel : ∀ t : Fin grid0.N, win0_4.index t = ![0])
theorem idx5 : ∀ t : Fin cfg0.N, win0_5.index t = ![0, 0] := (by decide +kernel : ∀ t : Fin grid0.N, win0_5.index t = ![0, 0])

/-- The arguments, as functions of plain indices: the gradient and its scale over the rows of both batches, -/
def dyR (i : Fin 1536) (r : Fin 16384) : EReal :=
  (m ((c : Thread nD τ).loc main_arg0) (ix3 ⟨i.val / 768, by omega⟩ ⟨i.val % 768, by omega⟩ r) : Ideal .fp8e5m2)
def dsR (i : Fin 1536) : EReal :=
  (m ((c : Thread nD τ).loc main_arg1) (ix2 ⟨i.val / 768, by omega⟩ ⟨i.val % 768, by omega⟩) : Ideal .f32)
/-- the codes, the words of positions, the weights' scale. -/
def valsR (r : Fin 8192) (j : Fin 2560) : BitVec 8 := m ((c : Thread nD τ).loc main_arg2) (ix2 r j)
def wordsR (r : Fin 512) (j : Fin 2560) : BitVec 32 := m ((c : Thread nD τ).loc main_arg3) (ix2 r j)
def wsR (r : Fin 16384) : EReal := (m ((c : Thread nD τ).loc main_arg4) (ix1 r) : Ideal .f32)

theorem rread0 (t : Fin cfg0.N) (i : Fin 1536) (k : Fin 16384) :
    (iblk m c 0 t : Vec Ideal S1536x16384 .fp8e5m2) (ix2 i k)
      = m ((c : Thread nD τ).loc main_arg0) (ix3 ⟨i.val / 768, by omega⟩ ⟨i.val % 768, by omega⟩ k) := by
  blk_ext! [iblk, V, idx0 t]

theorem rread1 (t : Fin cfg0.N) (i : Fin 1536) :
    (iblk m c 1 t : Vec Ideal S1536x1 .f32) (ix2 i 0)
      = m ((c : Thread nD τ).loc main_arg1) (ix2 ⟨i.val / 768, by omega⟩ ⟨i.val % 768, by omega⟩) := by
  blk_ext! [iblk, V, idx1 t]

theorem rread2 (t : Fin cfg0.N) (r : Fin 8192) (j : Fin 2560) :
    (iblk m c 2 t : Vec Ideal S8192x2560 .i8) (ix2 r j) = m ((c : Thread nD τ).loc main_arg2) (ix2 r j) := by
  blk_ext! [iblk, V, idx2 t]

theorem rread3 (t : Fin cfg0.N) (r : Fin 512) (j : Fin 2560) :
    (iblk m c 3 t : Vec Ideal S512x2560 .i32) (ix2 r j) = m ((c : Thread nD τ).loc main_arg3) (ix2 r j) := by
  blk_ext! [iblk, V, idx3 t]

theorem rread4 (t : Fin cfg0.N) (r : Fin 16384) :
    (iblk m c 4 t : Vec Ideal S16384 .f32) (ix1 r) = m ((c : Thread nD τ).loc main_arg4) (ix1 r) := by
  blk_ext! [iblk, V, idx4 t]

/-- Row `r`, column `j` of the reference's weights. -/
def weightR (r : Fin 16384) (j : Fin 2560) : EReal :=
  (if posAt (wordsR m c ⟨r.val / 32, by omega⟩ j) (2 * (r.val / 4 % 8)) = r.val % 4
      then ((FloatOps.ofBits .fp8e4m3 (valsR m c ⟨2 * (r.val / 4), by omega⟩ j) : Ideal .fp8e4m3) : EReal) else 0)
    + (if posAt (wordsR m c ⟨r.val / 32, by omega⟩ j) (2 * (r.val / 4 % 8) + 1) = r.val % 4
      then ((FloatOps.ofBits .fp8e4m3 (valsR m c ⟨2 * (r.val / 4) + 1, by omega⟩ j) : Ideal .fp8e4m3) : EReal) else 0)

/-- The reference's result at row `i`, column `j`. -/
def resultR (i : Fin 1536) (j : Fin 2560) : EReal :=
  (∑ r : Fin 16384, dyR m c i r * (weightR m c r j * wsR m c r)) * dsR m c i

/-- The body's result over blocks that read as the arguments. -/
theorem pay_of (x0 : Vec Ideal S1536x16384 .fp8e5m2) (x1 : Vec Ideal S1536x1 .f32) (x2 : Vec Ideal S8192x2560 .i8) (x3 : Vec Ideal S512x2560 .i32) (x4 : Vec Ideal S16384 .f32)
    (i : Fin 1536) (j : Fin 2560) (h0 : ∀ k, (x0 (ix2 i k) : EReal) = dyR m c i k) (h1 : (x1 (ix2 i 0) : EReal) = dsR m c i)
    (h2 : ∀ r, x2 (ix2 r j) = valsR m c r j) (h3 : ∀ r, x3 (ix2 r j) = wordsR m c r j) (h4 : ∀ r, (x4 (ix1 r) : EReal) = wsR m c r) :
    (k0_pay1 x3 x2 x4 x0 x1 (ix2 i j) : EReal) = resultR m c i j := by
  rw [pay_apply]
  unfold resultR
  rw [h1]
  refine congrArg (fun z : EReal => z * dsR m c i) (Finset.sum_congr rfl fun r _ => ?_)
  rw [h0, h4, dense_apply, h2, h2, h3]
  rfl

/-- THE REFERENCE'S RESULT at row `i`, column `j`. -/
theorem reference_value (i : Fin 1536) (j : Fin 2560) :
    (((dats m 0 c).arrAt 5 cfg0.N : FVec Ideal S1536x2560 .bf16) (ix2 i j) : EReal) = resultR m c i j := by
  have e : (dats m 0 c).arrAt 5 cfg0.N = fun y : S1536x2560.Idx => (resultR m c (y 0) (y 1) : Ideal .bf16) := by
    refine (dats m 0 c).arrAt_eq_of_covers 5 _ (by decide +kernel) fun t hf y => ?_
    blk_simp
    rw [after0_5]
    frame_out
    obtain ⟨a, b, rfl⟩ : ∃ (a : Fin 1536) (b : Fin 2560), y = ix2 a b := ⟨y 0, y 1, eq_ix2 y⟩
    refine (pay_of m c (iblk m c 0 t) (iblk m c 1 t) (iblk m c 2 t) (iblk m c 3 t) (iblk m c 4 t) a b
      (fun k => rread0 m c t a k) (rread1 m c t a) (fun r => rread2 m c t r b) (fun r => rread3 m c t r b) (fun r => rread4 m c t r)).trans ?_
    have e0 : ((((cfg0.win 5).blk t).view.emb (ix2 a b)) 0 : Fin 1536) = a := Fin.ext (by blk_simp [idx5 t])
    have e1 : ((((cfg0.win 5).blk t).view.emb (ix2 a b)) 1 : Fin 2560) = b := Fin.ext (by blk_simp [idx5 t])
    exact (congr (congrArg (resultR m c) e0) e1).symm
  exact congrFun e (ix2 i j)

end Cert.ReferenceIdeal.Dgrad

end
-- ==== Proof.Equation.lean ====
/-
  The equation: where the two positions of every group differ (`positions_ne`), the reference's weight is the kernel's,
  so from the same arguments both results are the same sum (`same`).
-/
module

public import proofs.«01_k».proof.Proof.Fold
public import proofs.«01_k».proof.Proof.RefValue
public import proofs.«01_k».proof.Proof.Gen.Pre_positions_differ
public import Idealize.ShloMosaic.Lib.KernelVsHost
public import Idealize.ShloMosaic.Lib.Affine

@[expose] public section

set_option maxRecDepth 16384

noncomputable section

namespace Cert.Sparse

open Idealize.ShloMosaic Idealize.ShloMosaic.TcCoe Idealize.SL.Sem

section Positions

open Cert.Pre_positions_differ Cert.Pre_positions_differ.Gen

theorem four_mul (s : Fin 8) : IntOp.muli 4#32 (BitVec.ofNat 32 s.val) = BitVec.ofNat 32 (2 * (2 * s.val)) := by
  revert s; decide

theorem four_mul_two (s : Fin 8) : IntOp.addi (IntOp.muli 4#32 (BitVec.ofNat 32 s.val)) 2#32 = BitVec.ofNat 32 (2 * (2 * s.val + 1)) := by
  revert s; decide

/-- The precondition at an entry. -/
theorem pre_apply (a0 : FVec Ideal S2x768x16384 .fp8e5m2) (a1 : FVec Ideal S2x768 .f32) (a2 : IVec S8192x2560 8) (a3 : IVec S512x2560 32) (a4 : FVec Ideal S16384 .f32)
    (q : Fin 512) (s : Fin 8) (j : Fin 2560) :
    fn a0 a1 a2 a3 a4 (ix3 q s j) = IntOp.cmpi .ne
      (IntOp.andi (IntOp.shrsi .host (a3 (ix2 q j)) (IntOp.muli 4#32 (BitVec.ofNat 32 s.val))) 3#32)
      (IntOp.andi (IntOp.shrsi .host (a3 (ix2 q j)) (IntOp.addi (IntOp.muli 4#32 (BitVec.ofNat 32 s.val)) 2#32)) 3#32) := by
  unfold fn fn_part1
  pointwise

/-- Where the precondition holds, the two positions of each group differ. -/
theorem positions_ne (a0 : FVec Ideal S2x768x16384 .fp8e5m2) (a1 : FVec Ideal S2x768 .f32) (a2 : IVec S8192x2560 8) (a3 : IVec S512x2560 32) (a4 : FVec Ideal S16384 .f32)
    (h : fn a0 a1 a2 a3 a4 = fun _ => 1#1) (q : Fin 512) (s : Fin 8) (j : Fin 2560) :
    posAt (a3 (ix2 q j)) (2 * s.val) ≠ posAt (a3 (ix2 q j)) (2 * s.val + 1) := by
  have e := (pre_apply a0 a1 a2 a3 a4 q s j).symm.trans (congrFun h (ix3 q s j))
  rw [four_mul_two, four_mul, shrsi_unit .host .vector, shrsi_unit .host .vector, and3_shift _ _ (by omega), and3_shift _ _ (by omega)] at e
  exact fun k => IntOp.cmpi_ne.mp e (congrArg (BitVec.ofNat 32) k)

end Positions

/-- The two results are the same sum, of the same arguments. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : ReferenceIdeal.Dgrad.dyR m' c = KernelIdeal.Dgrad.dyK m c) (h1 : ReferenceIdeal.Dgrad.dsR m' c = KernelIdeal.Dgrad.dsK m c)
    (h2 : ReferenceIdeal.Dgrad.valsR m' c = KernelIdeal.Dgrad.valsK m c) (h3 : ReferenceIdeal.Dgrad.wordsR m' c = KernelIdeal.Dgrad.wordsK m c)
    (h4 : ReferenceIdeal.Dgrad.wsR m' c = KernelIdeal.Dgrad.wsK m c)
    (hne : ∀ (q : Fin 512) (s : Fin 8) (j : Fin 2560), posAt (KernelIdeal.Dgrad.wordsK m c q j) (2 * s.val) ≠ posAt (KernelIdeal.Dgrad.wordsK m c q j) (2 * s.val + 1))
    (i : Fin 1536) (j : Fin 2560) :
    ReferenceIdeal.Dgrad.resultR m' c i j
      = product (KernelIdeal.Dgrad.dyK m c) (KernelIdeal.Dgrad.dsK m c) (KernelIdeal.Dgrad.wsK m c) (KernelIdeal.Dgrad.valsK m c) (KernelIdeal.Dgrad.wordsK m c) i j := by
  unfold ReferenceIdeal.Dgrad.resultR product
  rw [h0, h1, h4]
  refine congrArg (fun z : EReal => z * KernelIdeal.Dgrad.dsK m c i) (Finset.sum_congr rfl fun r _ => ?_)
  have hw : ReferenceIdeal.Dgrad.weightR m' c r j = full (KernelIdeal.Dgrad.valsK m c) (KernelIdeal.Dgrad.wordsK m c) r j := by
    unfold ReferenceIdeal.Dgrad.weightR full
    rw [h2, h3]
    exact (ofBits_joined _ _ _ _ _ (hne ⟨r.val / 32, by omega⟩ ⟨r.val / 4 % 8, by omega⟩ j)).symm
  rw [hw]
  unfold term
  rw [mul_comm (full _ _ r j), mul_assoc]

end Cert.Sparse

end
-- ==== Proof.lean ====
/- The assembly of the certificate: each program's frame, the claim of the idealization, and the equation of the kernel
   with the reference where the two positions of every group differ. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_positions_differ
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem Cert.Kernel

/-- From memories that agree on the arguments, with the two positions of every group different, the kernel's result is
    the reference's. -/
theorem algebraic : Cert.algebraic_KernelIdeal_ReferenceIdeal_pre_positions_differ := fun m g m' g' hpre hagree => by
  refine ⟨fun c => Cert.KernelIdeal.Value.G5 m c, Cert.KernelIdeal.Value.run m g,
    (θ_run _ _ _).mono (fun r h c => ⟨(h c).1.trans ?_, (h c).2⟩) (Cert.ReferenceIdeal.Value.run_blocks m' g')⟩
  obtain ⟨e0, e1, e2, e3, e4⟩ := hagree c
  funext y
  obtain ⟨i, j, rfl⟩ : ∃ (i : Fin 1536) (j : Fin 2560), y = ix2 i j := ⟨y 0, y 1, eq_ix2 y⟩
  refine (Cert.ReferenceIdeal.Dgrad.reference_value m' c i j).trans (Eq.trans ?_ (Cert.KernelIdeal.Dgrad.kernel_value m c i j).symm)
  exact Cert.Sparse.same m m' c
    (funext fun i => funext fun r => congrFun e0 _) (funext fun i => congrFun e1 _) (funext fun r => funext fun j => congrFun e2 _)
    (funext fun r => funext fun j => congrFun e3 _) (funext fun r => congrFun e4 _)
    (fun q s j => Cert.Sparse.positions_ne _ _ _ _ _ (hpre c) q s j) i j

theorem claim : Cert.Claim :=
  ⟨Cert.Kernel.Gen.facts, Cert.KernelIdeal.Gen.facts, Cert.ReferenceIdeal.Gen.facts, Cert.Pre_positions_differ.Gen.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
